-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S2x896x4096 : Shape := ⟨3, ![2, 896, 4096]⟩
abbrev S2x896x128 : Shape := ⟨3, ![2, 896, 128]⟩
abbrev S448x4096 : Shape := ⟨2, ![448, 4096]⟩
abbrev S448x128 : Shape := ⟨2, ![448, 128]⟩
abbrev S384 : Shape := ⟨1, ![384]⟩
abbrev S2x896 : Shape := ⟨2, ![2, 896]⟩
abbrev S2x896x384 : Shape := ⟨3, ![2, 896, 384]⟩
abbrev S2x896x64 : Shape := ⟨3, ![2, 896, 64]⟩
abbrev S_ : Shape := ⟨0, ![]⟩

class Facts : Prop where
  natLt_8_32 : 8 < 32
  bcast_S_S2x896x128 : S_.BroadcastsInDim S2x896x128 (![] : Fin 0 → Fin S2x896x128.rank)
  reducesTo_S2x896x128_S_d0_1_2 : S2x896x128.ReducesTo [0, 1, 2] S_
  h_S_ : 0 < S_.numel
  bcast_S_S448x128 : S_.BroadcastsInDim S448x128 (![] : Fin 0 → Fin S448x128.rank)
  reducesTo_S448x128_S_d0_1 : S448x128.ReducesTo [0, 1] S_

variable [Facts]

def fn {F : FTy → Type} [FloatOps F] (main_arg0 : FVec F S2x896x4096 .fp8e4m3) (main_arg1 : IVec S2x896x128 8) (main_arg2 : FVec F S448x4096 .fp8e4m3) (main_arg3 : IVec S448x128 8) (main_arg4 : FVec F S384 .f32) (main_arg5 : IVec S2x896 32) (main_arg6 : FVec F S2x896x384 .bf16) (main_arg7 : FVec F S2x896x64 .bf16) : IVec S_ 1 :=
  let main_v0 : IVec S2x896x128 32 := (extui 32 · natLt_8_32) main_arg1
  let main_v1 : IVec S448x128 32 := (extui 32 · natLt_8_32) main_arg3
  let main_c : IVec S_ 32 := constantI S_ 32 1#32
  let main_v2 : IVec S2x896x128 32 := broadcastInDim S2x896x128 ![] bcast_S_S2x896x128 main_c
  let main_v3 : IVec S2x896x128 1 := cmpi .sge main_v0 main_v2
  let main_c_0 : IVec S_ 32 := constantI S_ 32 254#32
  let main_v4 : IVec S2x896x128 32 := broadcastInDim S2x896x128 ![] bcast_S_S2x896x128 main_c_0
  let main_v5 : IVec S2x896x128 1 := cmpi .sle main_v0 main_v4
  let main_v6 : IVec S2x896x128 1 := andi main_v3 main_v5
  let main_c_1 : IVec S_ 1 := constantI S_ 1 1#1
  let main_v7 : IVec S_ 1 := (fun x v => Host.reduce IntOp.andi x v reducesTo_S2x896x128_S_d0_1_2 h_S_) main_v6 main_c_1
  let main_c_2 : IVec S_ 32 := constantI S_ 32 1#32
  let main_v8 : IVec S448x128 32 := broadcastInDim S448x128 ![] bcast_S_S448x128 main_c_2
  let main_v9 : IVec S448x128 1 := cmpi .sge main_v1 main_v8
  let main_c_3 : IVec S_ 32 := constantI S_ 32 254#32
  let main_v10 : IVec S448x128 32 := broadcastInDim S448x128 ![] bcast_S_S448x128 main_c_3
  let main_v11 : IVec S448x128 1 := cmpi .sle main_v1 main_v10
  let main_v12 : IVec S448x128 1 := andi main_v9 main_v11
  let main_c_4 : IVec S_ 1 := constantI S_ 1 1#1
  let main_v13 : IVec S_ 1 := (fun x v => Host.reduce IntOp.andi x v reducesTo_S448x128_S_d0_1 h_S_) main_v12 main_c_4
  let main_v14 : IVec S_ 1 := andi main_v7 main_v13
  main_v14
-- ==== Kernel.lean ====
abbrev S2x896x4096 : Shape := ⟨3, ![2, 896, 4096]⟩
abbrev S2x896x128 : Shape := ⟨3, ![2, 896, 128]⟩
abbrev S448x4096 : Shape := ⟨2, ![448, 4096]⟩
abbrev S448x128 : Shape := ⟨2, ![448, 128]⟩
abbrev S384 : Shape := ⟨1, ![384]⟩
abbrev S2x896 : Shape := ⟨2, ![2, 896]⟩
abbrev S2x896x384 : Shape := ⟨3, ![2, 896, 384]⟩
abbrev S2x896x64 : Shape := ⟨3, ![2, 896, 64]⟩
abbrev S64 : Shape := ⟨1, ![64]⟩
abbrev S64x128 : Shape := ⟨2, ![64, 128]⟩
abbrev S1792x4096 : Shape := ⟨2, ![1792, 4096]⟩
abbrev S1792x128 : Shape := ⟨2, ![1792, 128]⟩
abbrev S1x384 : Shape := ⟨2, ![1, 384]⟩
abbrev S1792x384 : Shape := ⟨2, ![1792, 384]⟩
abbrev S1792x64 : Shape := ⟨2, ![1792, 64]⟩
abbrev S2x7x384 : Shape := ⟨3, ![2, 7, 384]⟩
abbrev S1792x448 : Shape := ⟨2, ![1792, 448]⟩
abbrev S1792x14 : Shape := ⟨2, ![1792, 14]⟩
abbrev S256x4096 : Shape := ⟨2, ![256, 4096]⟩
abbrev S256x128 : Shape := ⟨2, ![256, 128]⟩
abbrev S256x384 : Shape := ⟨2, ![256, 384]⟩
abbrev S256x64 : Shape := ⟨2, ![256, 64]⟩
abbrev S256x448 : Shape := ⟨2, ![256, 448]⟩
abbrev S256x14 : Shape := ⟨2, ![256, 14]⟩
abbrev S384x128 : Shape := ⟨2, ![384, 128]⟩
abbrev S448x128x1 : Shape := ⟨3, ![448, 128, 1]⟩
abbrev S1x128 : Shape := ⟨2, ![1, 128]⟩
abbrev S128x128 : Shape := ⟨2, ![128, 128]⟩
abbrev S256x128x1 : Shape := ⟨3, ![256, 128, 1]⟩
abbrev S384x4096 : Shape := ⟨2, ![384, 4096]⟩
abbrev S384x256 : Shape := ⟨2, ![384, 256]⟩
abbrev S128x384 : Shape := ⟨2, ![128, 384]⟩
abbrev S128 : Shape := ⟨1, ![128]⟩
abbrev S1x1x384 : Shape := ⟨3, ![1, 1, 384]⟩
abbrev S2x128 : Shape := ⟨2, ![2, 128]⟩
abbrev S128x64 : Shape := ⟨2, ![128, 64]⟩
abbrev S32x128 : Shape := ⟨2, ![32, 128]⟩
abbrev S16x128 : Shape := ⟨2, ![16, 128]⟩
abbrev S128x448 : Shape := ⟨2, ![128, 448]⟩
abbrev S128x16 : Shape := ⟨2, ![128, 16]⟩
abbrev S128x14 : Shape := ⟨2, ![128, 14]⟩
abbrev S128x4096 : Shape := ⟨2, ![128, 4096]⟩

abbrev nBuf : Space → Nat
  | .hbm => 19
  | .vmem => 23
  | .smem => 0
  | _ => 0

abbrev bufTy : (tb : Table) → Fin (tcTables nBuf tb) → BufTy
  | .hbm, ⟨0, _⟩ => ⟨S2x896x4096, .fp8e4m3⟩
  | .hbm, ⟨1, _⟩ => ⟨S2x896x128, .i8⟩
  | .hbm, ⟨2, _⟩ => ⟨S448x4096, .fp8e4m3⟩
  | .hbm, ⟨3, _⟩ => ⟨S448x128, .i8⟩
  | .hbm, ⟨4, _⟩ => ⟨S384, .f32⟩
  | .hbm, ⟨5, _⟩ => ⟨S2x896, .i32⟩
  | .hbm, ⟨6, _⟩ => ⟨S2x896x384, .bf16⟩
  | .hbm, ⟨7, _⟩ => ⟨S2x896x64, .bf16⟩
  | .hbm, ⟨8, _⟩ => ⟨S64, .f32⟩
  | .hbm, ⟨9, _⟩ => ⟨S64x128, .f32⟩
  | .hbm, ⟨10, _⟩ => ⟨S1792x4096, .fp8e4m3⟩
  | .hbm, ⟨11, _⟩ => ⟨S1792x128, .i8⟩
  | .hbm, ⟨12, _⟩ => ⟨S1x384, .f32⟩
  | .hbm, ⟨13, _⟩ => ⟨S1792x384, .bf16⟩
  | .hbm, ⟨14, _⟩ => ⟨S1792x64, .bf16⟩
  | .hbm, ⟨15, _⟩ => ⟨S1792x4096, .bf16⟩
  | .hbm, ⟨16, _⟩ => ⟨S2x7x384, .f32⟩
  | .hbm, ⟨17, _⟩ => ⟨S1792x448, .fp8e5m2⟩
  | .hbm, ⟨18, _⟩ => ⟨S1792x14, .i8⟩
  | .local _ .vmem, ⟨0, _⟩ => ⟨S256x4096, .fp8e4m3⟩
  | .local _ .vmem, ⟨1, _⟩ => ⟨S256x4096, .fp8e4m3⟩
  | .local _ .vmem, ⟨2, _⟩ => ⟨S256x128, .i8⟩
  | .local _ .vmem, ⟨3, _⟩ => ⟨S256x128, .i8⟩
  | .local _ .vmem, ⟨4, _⟩ => ⟨S448x4096, .fp8e4m3⟩
  | .local _ .vmem, ⟨5, _⟩ => ⟨S448x128, .i8⟩
  | .local _ .vmem, ⟨6, _⟩ => ⟨S1x384, .f32⟩
  | .local _ .vmem, ⟨7, _⟩ => ⟨S2x896, .i32⟩
  | .local _ .vmem, ⟨8, _⟩ => ⟨S256x384, .bf16⟩
  | .local _ .vmem, ⟨9, _⟩ => ⟨S256x384, .bf16⟩
  | .local _ .vmem, ⟨10, _⟩ => ⟨S256x64, .bf16⟩
  | .local _ .vmem, ⟨11, _⟩ => ⟨S256x64, .bf16⟩
  | .local _ .vmem, ⟨12, _⟩ => ⟨S64x128, .f32⟩
  | .local _ .vmem, ⟨13, _⟩ => ⟨S256x4096, .bf16⟩
  | .local _ .vmem, ⟨14, _⟩ => ⟨S256x4096, .bf16⟩
  | .local _ .vmem, ⟨15, _⟩ => ⟨S2x7x384, .f32⟩
  | .local _ .vmem, ⟨16, _⟩ => ⟨S256x448, .fp8e5m2⟩
  | .local _ .vmem, ⟨17, _⟩ => ⟨S256x448, .fp8e5m2⟩
  | .local _ .vmem, ⟨18, _⟩ => ⟨S256x14, .i8⟩
  | .local _ .vmem, ⟨19, _⟩ => ⟨S256x14, .i8⟩
  | .local _ .vmem, ⟨20, _⟩ => ⟨S448x4096, .bf16⟩
  | .local _ .vmem, ⟨21, _⟩ => ⟨S256x4096, .bf16⟩
  | .local _ .vmem, ⟨22, _⟩ => ⟨S384x128, .f32⟩
  | _, _ => ⟨S2x896x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![7], ![false]⟩

def k0_off1 (i : grid0.Coords) (c0_i32_397 : BitVec 32) : Fin 3 → Nat :=
  let arg0 : BitVec 32 := BitVec.ofNat 32 (i 0).val
  let c2_i32 : BitVec 32 := 2#32
  let v1438 : BitVec 32 := Scalar.muli arg0 c2_i32
  let v1439 : BitVec 32 := Scalar.addi v1438 c0_i32_397
  let c0_i32_399 : BitVec 32 := 0#32
  let v1444 : BitVec 1 := Scalar.cmpi .sgt v1439 c0_i32_399
  let v1445 : BitVec 32 := Scalar.extui v1444
  let c0_i32_400 : BitVec 32 := 0#32
  let v1446 : BitVec 1 := Scalar.cmpi .slt v1439 c0_i32_400
  let v1447 : BitVec 32 := Scalar.extui v1446
  let v1448 : BitVec 32 := Scalar.subi v1445 v1447
  let c7_i32 : BitVec 32 := 7#32
  let c0_i32_401 : BitVec 32 := 0#32
  let v1449 : BitVec 1 := Scalar.cmpi .sgt c7_i32 c0_i32_401
  let v1450 : BitVec 32 := Scalar.extui v1449
  let c0_i32_402 : BitVec 32 := 0#32
  let v1451 : BitVec 1 := Scalar.cmpi .slt c7_i32 c0_i32_402
  let v1452 : BitVec 32 := Scalar.extui v1451
  let v1453 : BitVec 32 := Scalar.subi v1450 v1452
  let v1454 : BitVec 1 := Scalar.cmpi .ne v1448 v1453
  let v1455 : BitVec 32 := Scalar.remsi v1439 c7_i32
  let c0_i32_403 : BitVec 32 := 0#32
  let v1456 : BitVec 1 := Scalar.cmpi .ne v1455 c0_i32_403
  let v1457 : BitVec 1 := Scalar.andi v1454 v1456
  let v1443 : BitVec 32 := Scalar.divsi v1439 c7_i32
  let c1_i32_404 : BitVec 32 := 1#32
  let v1458 : BitVec 32 := Scalar.subi v1443 c1_i32_404
  let v1459 : BitVec 32 := Scalar.select v1457 v1458 v1443
  let v1470 : Index := Scalar.indexCast v1459
  let c7_i32_405 : BitVec 32 := 7#32
  let c0_i32_406 : BitVec 32 := 0#32
  let v1460 : BitVec 1 := Scalar.cmpi .eq c7_i32_405 c0_i32_406
  let c1_i32_407 : BitVec 32 := 1#32
  let v1461 : BitVec 32 := Scalar.select v1460 c1_i32_407 c7_i32_405
  let v1462 : BitVec 32 := Scalar.remsi v1439 v1461
  let c0_i32_409 : BitVec 32 := 0#32
  let v1464 : BitVec 1 := Scalar.cmpi .slt v1462 c0_i32_409
  let c0_i32_410 : BitVec 32 := 0#32
  let v1465 : BitVec 1 := Scalar.cmpi .slt v1461 c0_i32_410
  let v1466 : BitVec 1 := Scalar.xori v1464 v1465
  let c0_i32_408 : BitVec 32 := 0#32
  let v1463 : BitVec 1 := Scalar.cmpi .ne v1462 c0_i32_408
  let v1467 : BitVec 1 := Scalar.andi v1466 v1463
  let v1468 : BitVec 32 := Scalar.addi v1462 v1461
  let v1469 : BitVec 32 := Scalar.select v1467 v1468 v1462
  let v1471 : Index := Scalar.indexCast v1469
  let c0_411 : Index := 0#32
  ![v1470.toNat, v1471.toNat, 0]
def k0_mult1 (i : grid0.Coords) : BitVec 32 :=
  let arg0 : BitVec 32 := BitVec.ofNat 32 (i 0).val
  let c2_i32 : BitVec 32 := 2#32
  let v1438 : BitVec 32 := Scalar.muli arg0 c2_i32
  let c0_i32_397 : BitVec 32 := 0#32
  let v1439 : BitVec 32 := Scalar.addi v1438 c0_i32_397
  let c7_i32_414 : BitVec 32 := 7#32
  let c0_i32_415 : BitVec 32 := 0#32
  let v1489 : BitVec 1 := Scalar.cmpi .eq c7_i32_414 c0_i32_415
  let c1_i32_416 : BitVec 32 := 1#32
  let v1490 : BitVec 32 := Scalar.select v1489 c1_i32_416 c7_i32_414
  let v1491 : BitVec 32 := Scalar.remsi v1439 v1490
  let c0_i32_418 : BitVec 32 := 0#32
  let v1493 : BitVec 1 := Scalar.cmpi .slt v1491 c0_i32_418
  let c0_i32_419 : BitVec 32 := 0#32
  let v1494 : BitVec 1 := Scalar.cmpi .slt v1490 c0_i32_419
  let v1495 : BitVec 1 := Scalar.xori v1493 v1494
  let c0_i32_417 : BitVec 32 := 0#32
  let v1492 : BitVec 1 := Scalar.cmpi .ne v1491 c0_i32_417
  let v1496 : BitVec 1 := Scalar.andi v1495 v1492
  let v1497 : BitVec 32 := Scalar.addi v1491 v1490
  let v1498 : BitVec 32 := Scalar.select v1496 v1497 v1491
  let c128_i32_420 : BitVec 32 := 128#32
  let v1499 : BitVec 32 := Scalar.muli v1498 c128_i32_420
  v1499
def k0_off2 (i : grid0.Coords) (c0_i32_397 : BitVec 32) : Fin 2 → Nat :=
  let c0_421 : Index := 0#32
  let arg0 : BitVec 32 := BitVec.ofNat 32 (i 0).val
  let c2_i32 : BitVec 32 := 2#32
  let v1438 : BitVec 32 := Scalar.muli arg0 c2_i32
  let v1439 : BitVec 32 := Scalar.addi v1438 c0_i32_397
  let c7_i32_414 : BitVec 32 := 7#32
  let c0_i32_415 : BitVec 32 := 0#32
  let v1489 : BitVec 1 := Scalar.cmpi .eq c7_i32_414 c0_i32_415
  let c1_i32_416 : BitVec 32 := 1#32
  let v1490 : BitVec 32 := Scalar.select v1489 c1_i32_416 c7_i32_414
  let v1491 : BitVec 32 := Scalar.remsi v1439 v1490
  let c0_i32_418 : BitVec 32 := 0#32
  let v1493 : BitVec 1 := Scalar.cmpi .slt v1491 c0_i32_418
  let c0_i32_419 : BitVec 32 := 0#32
  let v1494 : BitVec 1 := Scalar.cmpi .slt v1490 c0_i32_419
  let v1495 : BitVec 1 := Scalar.xori v1493 v1494
  let c0_i32_417 : BitVec 32 := 0#32
  let v1492 : BitVec 1 := Scalar.cmpi .ne v1491 c0_i32_417
  let v1496 : BitVec 1 := Scalar.andi v1495 v1492
  let v1497 : BitVec 32 := Scalar.addi v1491 v1490
  let v1498 : BitVec 32 := Scalar.select v1496 v1497 v1491
  let c128_i32_420 : BitVec 32 := 128#32
  let v1499 : BitVec 32 := Scalar.muli v1498 c128_i32_420
  let v1500 : BitVec 32 := v1499
  let v1501 : Index := Scalar.indexCast v1500
  ![0, v1501.toNat]
def k0_mult2 (i : grid0.Coords) : BitVec 32 :=
  let arg0 : BitVec 32 := BitVec.ofNat 32 (i 0).val
  let c2_i32_856 : BitVec 32 := 2#32
  let v2874 : BitVec 32 := Scalar.muli arg0 c2_i32_856
  let c1_i32_857 : BitVec 32 := 1#32
  let v2875 : BitVec 32 := Scalar.addi v2874 c1_i32_857
  let c7_i32_875 : BitVec 32 := 7#32
  let c0_i32_876 : BitVec 32 := 0#32
  let v2925 : BitVec 1 := Scalar.cmpi .eq c7_i32_875 c0_i32_876
  let c1_i32_877 : BitVec 32 := 1#32
  let v2926 : BitVec 32 := Scalar.select v2925 c1_i32_877 c7_i32_875
  let v2927 : BitVec 32 := Scalar.remsi v2875 v2926
  let c0_i32_879 : BitVec 32 := 0#32
  let v2929 : BitVec 1 := Scalar.cmpi .slt v2927 c0_i32_879
  let c0_i32_880 : BitVec 32 := 0#32
  let v2930 : BitVec 1 := Scalar.cmpi .slt v2926 c0_i32_880
  let v2931 : BitVec 1 := Scalar.xori v2929 v2930
  let c0_i32_878 : BitVec 32 := 0#32
  let v2928 : BitVec 1 := Scalar.cmpi .ne v2927 c0_i32_878
  let v2932 : BitVec 1 := Scalar.andi v2931 v2928
  let v2933 : BitVec 32 := Scalar.addi v2927 v2926
  let v2934 : BitVec 32 := Scalar.select v2932 v2933 v2927
  let c128_i32_881 : BitVec 32 := 128#32
  let v2935 : BitVec 32 := Scalar.muli v2934 c128_i32_881
  v2935
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S448x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S448x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x896 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x7x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x448 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x14 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x896x4096 : Shape := ⟨3, ![2, 896, 4096]⟩
abbrev S2x896x128 : Shape := ⟨3, ![2, 896, 128]⟩
abbrev S448x4096 : Shape := ⟨2, ![448, 4096]⟩
abbrev S448x128 : Shape := ⟨2, ![448, 128]⟩
abbrev S384 : Shape := ⟨1, ![384]⟩
abbrev S2x896 : Shape := ⟨2, ![2, 896]⟩
abbrev S2x896x384 : Shape := ⟨3, ![2, 896, 384]⟩
abbrev S2x896x64 : Shape := ⟨3, ![2, 896, 64]⟩
abbrev S64 : Shape := ⟨1, ![64]⟩
abbrev S1x384 : Shape := ⟨2, ![1, 384]⟩
abbrev S1x64 : Shape := ⟨2, ![1, 64]⟩
abbrev S1792x4096 : Shape := ⟨2, ![1792, 4096]⟩
abbrev S2x7x384 : Shape := ⟨3, ![2, 7, 384]⟩
abbrev S1792x448 : Shape := ⟨2, ![1792, 448]⟩
abbrev S1792x14 : Shape := ⟨2, ![1792, 14]⟩
abbrev S448x128x32 : Shape := ⟨3, ![448, 128, 32]⟩
abbrev S448x128x1 : Shape := ⟨3, ![448, 128, 1]⟩
abbrev S1792x128x32 : Shape := ⟨3, ![1792, 128, 32]⟩
abbrev S1792x128 : Shape := ⟨2, ![1792, 128]⟩
abbrev S1792x128x1 : Shape := ⟨3, ![1792, 128, 1]⟩
abbrev S384x4096 : Shape := ⟨2, ![384, 4096]⟩
abbrev S1792x384 : Shape := ⟨2, ![1792, 384]⟩
abbrev S1792 : Shape := ⟨1, ![1792]⟩
abbrev S1792x1 : Shape := ⟨2, ![1792, 1]⟩
abbrev S2x7x128x384 : Shape := ⟨4, ![2, 7, 128, 384]⟩
abbrev S1792x64 : Shape := ⟨2, ![1792, 64]⟩
abbrev S1792x63 : Shape := ⟨2, ![1792, 63]⟩
abbrev S1792x14x32 : Shape := ⟨3, ![1792, 14, 32]⟩
abbrev S1792x14x239 : Shape := ⟨3, ![1792, 14, 239]⟩
abbrev S1792x14x1 : Shape := ⟨3, ![1792, 14, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x896x4096, .fp8e4m3⟩
  | .hbm, ⟨1, _⟩ => ⟨S2x896x128, .i8⟩
  | .hbm, ⟨2, _⟩ => ⟨S448x4096, .fp8e4m3⟩
  | .hbm, ⟨3, _⟩ => ⟨S448x128, .i8⟩
  | .hbm, ⟨4, _⟩ => ⟨S384, .f32⟩
  | .hbm, ⟨5, _⟩ => ⟨S2x896, .i32⟩
  | .hbm, ⟨6, _⟩ => ⟨S2x896x384, .bf16⟩
  | .hbm, ⟨7, _⟩ => ⟨S2x896x64, .bf16⟩
  | .hbm, ⟨8, _⟩ => ⟨S64, .f32⟩
  | .hbm, ⟨9, _⟩ => ⟨S1x384, .f32⟩
  | .hbm, ⟨10, _⟩ => ⟨S1x64, .f32⟩
  | .hbm, ⟨11, _⟩ => ⟨S1792x4096, .bf16⟩
  | .hbm, ⟨12, _⟩ => ⟨S2x7x384, .f32⟩
  | .hbm, ⟨13, _⟩ => ⟨S1792x448, .fp8e5m2⟩
  | .hbm, ⟨14, _⟩ => ⟨S1792x14, .i8⟩
  | .local _ .vmem, ⟨0, _⟩ => ⟨S2x896x4096, .fp8e4m3⟩
  | .local _ .vmem, ⟨1, _⟩ => ⟨S2x896x128, .i8⟩
  | .local _ .vmem, ⟨2, _⟩ => ⟨S448x4096, .fp8e4m3⟩
  | .local _ .vmem, ⟨3, _⟩ => ⟨S448x128, .i8⟩
  | .local _ .vmem, ⟨4, _⟩ => ⟨S1x384, .f32⟩
  | .local _ .vmem, ⟨5, _⟩ => ⟨S2x896, .i32⟩
  | .local _ .vmem, ⟨6, _⟩ => ⟨S2x896x384, .bf16⟩
  | .local _ .vmem, ⟨7, _⟩ => ⟨S2x896x64, .bf16⟩
  | .local _ .vmem, ⟨8, _⟩ => ⟨S1x64, .f32⟩
  | .local _ .vmem, ⟨9, _⟩ => ⟨S1792x4096, .bf16⟩
  | .local _ .vmem, ⟨10, _⟩ => ⟨S2x7x384, .f32⟩
  | .local _ .vmem, ⟨11, _⟩ => ⟨S1792x448, .fp8e5m2⟩
  | .local _ .vmem, ⟨12, _⟩ => ⟨S1792x14, .i8⟩
  | _, _ => ⟨S2x896x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x896x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S448x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x7x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x448 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1792x14 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelFrame.Runs.lean ====
/-
  What the runs of `Kernel`'s body share: the condition of its one branch over the grid points, the staging and
  scratch buffers it is handed, and the frame read off a run whose results are left unnamed.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x896 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x384 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x7x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x448 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x14 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S448x4096 .bf16 := Memref.whole cc0_scratch0
abbrev scM0_1 : Memref sig .tc .vmem S256x4096 .bf16 := Memref.whole cc0_scratch1
abbrev scM0_2 : Memref sig .tc .vmem S384x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelFrame.RunA.lean ====
/-
  The body of `Kernel` at a point where its branch is taken: it runs, and hands every buffer back.
-/
module

public import proofs.«01_k».proof.Proof.KernelFrame.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 2668000 in
/-- The body's triple IN CASE A (`scf.if` 0 taken: points 0): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_kv_bwd_eq_skeleton]; unfold cc0_mla_kv_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.RunB.lean ====
/-
  The body of `Kernel` at a point where its branch is not taken: it runs, and hands every buffer back.
-/
module

public import proofs.«01_k».proof.Proof.KernelFrame.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1764000 in
/-- The body's triple IN CASE B (`scf.if` 0 not taken: points 1, 2, 3, 4, 5, 6): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_kv_bwd_eq_skeleton]; unfold cc0_mla_kv_bwd_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.Frame.lean ====
/-
  `Kernel` runs, faults nowhere and leaves its arguments unchanged: the two cases of the body put together over the grid.
  Nothing is said here of what its results hold.
-/
module

public import proofs.«01_k».proof.Proof.KernelFrame.RunA
public import proofs.«01_k».proof.Proof.KernelFrame.RunB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 7 := lt_of_lt_of_eq t.isLt (show cfg0.N = 7 from N_0)
  by_cases h0 : t.val % 7 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KernelIdealFrame.Runs.lean ====
/-
  What the runs of `KernelIdeal`'s body share: the condition of its one branch over the grid points, the staging and
  scratch buffers it is handed, and the frame read off a run whose results are left unnamed.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x896 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x384 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x7x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x448 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x14 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S448x4096 .bf16 := Memref.whole cc0_scratch0
abbrev scM0_1 : Memref sig .tc .vmem S256x4096 .bf16 := Memref.whole cc0_scratch1
abbrev scM0_2 : Memref sig .tc .vmem S384x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdealFrame.RunA.lean ====
/-
  The body of `KernelIdeal` at a point where its branch is taken: it runs, and hands every buffer back.
-/
module

public import proofs.«01_k».proof.Proof.KernelIdealFrame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 2668000 in
/-- The body's triple IN CASE A (`scf.if` 0 taken: points 0): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_kv_bwd_eq_skeleton]; unfold cc0_mla_kv_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.KernelIdealFrame.RunB.lean ====
/-
  The body of `KernelIdeal` at a point where its branch is not taken: it runs, and hands every buffer back.
-/
module

public import proofs.«01_k».proof.Proof.KernelIdealFrame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1764000 in
/-- The body's triple IN CASE B (`scf.if` 0 not taken: points 1, 2, 3, 4, 5, 6): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_kv_bwd_eq_skeleton]; unfold cc0_mla_kv_bwd_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.KernelIdealFrame.Frame.lean ====
/-
  `KernelIdeal` runs, faults nowhere and leaves its arguments unchanged: the two cases of the body put together over the grid.
  Nothing is said here of what its results hold.
-/
module

public import proofs.«01_k».proof.Proof.KernelIdealFrame.RunA
public import proofs.«01_k».proof.Proof.KernelIdealFrame.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 7 := lt_of_lt_of_eq t.isLt (show cfg0.N = 7 from N_0)
  by_cases h0 : t.val % 7 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.KernelValue.Body.lean ====
/-
  What the kernel's body computes, as functions of the values it loads.
-/
module

public import proofs.«01_k».proof.Proof.KernelIdealFrame.Runs

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## One 32-row group -/

/-- The largest magnitude of each column of a group. -/
def grpMax (g : FVec F S32x128 .f32) : FVec F S128 .f32 :=
  multiReduction .maximumf [0] S128 (absf g) 0xFF800000#32 reduces_S32x128_S128 (.inl rfl) rfl

/-- The largest magnitude of each column over the greatest code. -/
def grpV (g : FVec F S32x128 .f32) : FVec F S1x128 .f32 := k0_pay188 (grpMax g)

/-- The exponent each column of a group is scaled by. -/
def grpE (g : FVec F S32x128 .f32) : IVec S1x128 32 := k0_pay190 (grpV g) (k0_pay189 (grpMax g))

/-- The codes of a group. -/
def grpQ (g : FVec F S32x128 .f32) : FVec F S32x128 .bf16 := k0_pay191 g (grpV g) (k0_pay189 (grpMax g))

/-- The values the codes of a group stand for. -/
def grpG (g : FVec F S32x128 .f32) : FVec F S32x128 .bf16 := k0_pay192 g (grpV g) (k0_pay189 (grpMax g))

/-- Group `k` of the 384 rows. -/
def slC (k : ℕ) (h : Shape.Slices S384x128 ![32 * k, 0] S32x128) (v : FVec F S384x128 .f32) : FVec F S32x128 .f32 :=
  extractStridedSlice S32x128 ![32 * k, 0] v h

/-- Group `k` of the 64 rows. -/
def slR (k : ℕ) (h : Shape.Slices S64x128 ![32 * k, 0] S32x128) (v : FVec F S64x128 .f32) : FVec F S32x128 .f32 :=
  extractStridedSlice S32x128 ![32 * k, 0] v h

/-! ## One run of 128 tokens -/

/-- The columns of the first run of the product, rounded. -/
def cf0 (w : FVec F S384x4096 .bf16) (x : FVec F S256x4096 .bf16) : FVec F S384x128 .f32 := k0_pay179 w x

/-- The columns of the second run of the product, rounded. -/
def cf1 (w : FVec F S384x4096 .bf16) (x : FVec F S256x4096 .bf16) : FVec F S384x128 .f32 := k0_pay303 (k0_pay178 w x)

/-- The gradient of the latent part of a run. -/
def dcR (gain : FVec F S384x128 .f32) (cf : FVec F S384x128 .f32) (dc : FVec F S128x384 .bf16) : FVec F S384x128 .f32 :=
  k0_pay184 gain cf (k0_pay180 dc) (k0_pay181 cf)

/-- The part a run adds to the gradient of the gain. -/
def dgR (cf : FVec F S384x128 .f32) (dc : FVec F S128x384 .bf16) : FVec F S1x1x384 .f32 := k0_pay183 (k0_pay182 cf dc)

/-- A run's number over seven, rounded down, as the body computes it. -/
def div7 (run : BitVec 32) : BitVec 32 :=
  Scalar.select
    (Scalar.andi
      (Scalar.cmpi .ne (Scalar.subi (Scalar.extui (Scalar.cmpi .sgt run 0#32)) (Scalar.extui (Scalar.cmpi .slt run 0#32)))
        (Scalar.subi (Scalar.extui (Scalar.cmpi .sgt 7#32 0#32)) (Scalar.extui (Scalar.cmpi .slt 7#32 0#32))))
      (Scalar.cmpi .ne (Scalar.remsi run 7#32) 0#32))
    (Scalar.subi (Scalar.divsi run 7#32) 1#32) (Scalar.divsi run 7#32)

/-- The number of run `r` of point `i`. -/
def runNo (i : grid0.Coords) (r : BitVec 32) : BitVec 32 := Scalar.addi (Scalar.muli (i 0) 2#32) r

/-- The gradient of the rotary part of a run, of the positions' row `b`. -/
def dkR (b : BitVec 32) (pos : Vec F S2x128 .i32) (dk : FVec F S128x64 .bf16) (invf : FVec F S64x128 .f32) :
    FVec F S64x128 .f32 :=
  k0_pay310 pos (iota .tc S2x128 32 [0] iota_S2x128_d0_w32) b 0#1 0#32 dk invf

/-- The codes of a run's fourteen groups. -/
def codesR (dc : FVec F S384x128 .f32) (dk : FVec F S64x128 .f32) : FVec F S128x448 .fp8e5m2 :=
  k0_pay300 (grpQ (slC 0 slices_S384x128_o0_0_S32x128 dc)) (grpQ (slC 1 slices_S384x128_o32_0_S32x128 dc)) (grpQ (slC 2 slices_S384x128_o64_0_S32x128 dc)) (grpQ (slC 3 slices_S384x128_o96_0_S32x128 dc)) (grpQ (slC 4 slices_S384x128_o128_0_S32x128 dc)) (grpQ (slC 5 slices_S384x128_o160_0_S32x128 dc)) (grpQ (slC 6 slices_S384x128_o192_0_S32x128 dc)) (grpQ (slC 7 slices_S384x128_o224_0_S32x128 dc)) (grpQ (slC 8 slices_S384x128_o256_0_S32x128 dc)) (grpQ (slC 9 slices_S384x128_o288_0_S32x128 dc)) (grpQ (slC 10 slices_S384x128_o320_0_S32x128 dc)) (grpQ (slC 11 slices_S384x128_o352_0_S32x128 dc)) (grpQ (slR 0 slices_S64x128_o0_0_S32x128 dk)) (grpQ (slR 1 slices_S64x128_o32_0_S32x128 dk))

/-- The scales of a run's fourteen groups. -/
def scalesR (dc : FVec F S384x128 .f32) (dk : FVec F S64x128 .f32) : IVec S128x14 8 :=
  k0_pay301 (grpE (slC 0 slices_S384x128_o0_0_S32x128 dc)) (grpE (slC 1 slices_S384x128_o32_0_S32x128 dc)) (grpE (slC 2 slices_S384x128_o64_0_S32x128 dc)) (grpE (slC 3 slices_S384x128_o96_0_S32x128 dc)) (grpE (slC 4 slices_S384x128_o128_0_S32x128 dc)) (grpE (slC 5 slices_S384x128_o160_0_S32x128 dc)) (grpE (slC 6 slices_S384x128_o192_0_S32x128 dc)) (grpE (slC 7 slices_S384x128_o224_0_S32x128 dc)) (grpE (slC 8 slices_S384x128_o256_0_S32x128 dc)) (grpE (slC 9 slices_S384x128_o288_0_S32x128 dc)) (grpE (slC 10 slices_S384x128_o320_0_S32x128 dc)) (grpE (slC 11 slices_S384x128_o352_0_S32x128 dc)) (grpE (slR 0 slices_S64x128_o0_0_S32x128 dk)) (grpE (slR 1 slices_S64x128_o32_0_S32x128 dk))

/-- The values of a run's fourteen groups, one above the other. -/
def gT (dc : FVec F S384x128 .f32) (dk : FVec F S64x128 .f32) : FVec F S448x128 .bf16 :=
  concatenate S448x128 0 [⟨S32x128, grpG (slC 0 slices_S384x128_o0_0_S32x128 dc)⟩, ⟨S32x128, grpG (slC 1 slices_S384x128_o32_0_S32x128 dc)⟩, ⟨S32x128, grpG (slC 2 slices_S384x128_o64_0_S32x128 dc)⟩, ⟨S32x128, grpG (slC 3 slices_S384x128_o96_0_S32x128 dc)⟩, ⟨S32x128, grpG (slC 4 slices_S384x128_o128_0_S32x128 dc)⟩, ⟨S32x128, grpG (slC 5 slices_S384x128_o160_0_S32x128 dc)⟩, ⟨S32x128, grpG (slC 6 slices_S384x128_o192_0_S32x128 dc)⟩, ⟨S32x128, grpG (slC 7 slices_S384x128_o224_0_S32x128 dc)⟩, ⟨S32x128, grpG (slC 8 slices_S384x128_o256_0_S32x128 dc)⟩, ⟨S32x128, grpG (slC 9 slices_S384x128_o288_0_S32x128 dc)⟩, ⟨S32x128, grpG (slC 10 slices_S384x128_o320_0_S32x128 dc)⟩, ⟨S32x128, grpG (slC 11 slices_S384x128_o352_0_S32x128 dc)⟩, ⟨S32x128, grpG (slR 0 slices_S64x128_o0_0_S32x128 dk)⟩, ⟨S32x128, grpG (slR 1 slices_S64x128_o32_0_S32x128 dk)⟩] concatenates_S32x128_S32x128_S32x128_S32x128_S32x128_S32x128_S32x128_S32x128_S32x128_S32x128_S32x128_S32x128_S32x128_S32x128_S448x128_d0

/-- The gradient of a run's inputs. -/
def dxR (dc : FVec F S384x128 .f32) (dk : FVec F S64x128 .f32) (w : FVec F S448x4096 .bf16) : FVec F S128x4096 .bf16 := k0_pay439 (gT dc dk) w

/-! ## The two runs of a point -/

/-- The gradient of the latent part of the first run of a point. -/
def dcP0 (w : FVec F S448x4096 .bf16) (x : FVec F S256x4096 .bf16) (gain : FVec F S384x128 .f32) (x6 : FVec F S256x384 .bf16) :
    FVec F S384x128 .f32 :=
  dcR (View.ld (Val := Elt F) (e' := .f32) gain (Rect.unit ![0, 0] S384x128.size inb_S384x128_S384x128_0_0))
    (cf0 (View.ld (Val := Elt F) (e' := .bf16) w (Rect.unit ![0, 0] S384x4096.size inb_S448x4096_S384x4096_0_0)) x)
    (View.ld (Val := Elt F) (e' := .bf16) x6 (Rect.unit ![0, 0] S128x384.size inb_S256x384_S128x384_0_0))

/-- The gradient of the latent part of the second run of a point. -/
def dcP1 (w : FVec F S448x4096 .bf16) (x : FVec F S256x4096 .bf16) (gain : FVec F S384x128 .f32) (x6 : FVec F S256x384 .bf16) :
    FVec F S384x128 .f32 :=
  dcR (View.ld (Val := Elt F) (e' := .f32) gain (Rect.unit ![0, 0] S384x128.size inb_S384x128_S384x128_0_0))
    (cf1 (View.ld (Val := Elt F) (e' := .bf16) w (Rect.unit ![0, 0] S384x4096.size inb_S448x4096_S384x4096_0_0)) x)
    (View.ld (Val := Elt F) (e' := .bf16) x6 (Rect.unit ![128, 0] S128x384.size inb_S256x384_S128x384_128_0))

/-- What the first run of a point adds to the gradient of the gain. -/
def dgP0 (w : FVec F S448x4096 .bf16) (x : FVec F S256x4096 .bf16) (x6 : FVec F S256x384 .bf16) : FVec F S1x1x384 .f32 :=
  dgR (cf0 (View.ld (Val := Elt F) (e' := .bf16) w (Rect.unit ![0, 0] S384x4096.size inb_S448x4096_S384x4096_0_0)) x)
    (View.ld (Val := Elt F) (e' := .bf16) x6 (Rect.unit ![0, 0] S128x384.size inb_S256x384_S128x384_0_0))

/-- What the second run of a point adds to the gradient of the gain. -/
def dgP1 (w : FVec F S448x4096 .bf16) (x : FVec F S256x4096 .bf16) (x6 : FVec F S256x384 .bf16) : FVec F S1x1x384 .f32 :=
  dgR (cf1 (View.ld (Val := Elt F) (e' := .bf16) w (Rect.unit ![0, 0] S384x4096.size inb_S448x4096_S384x4096_0_0)) x)
    (View.ld (Val := Elt F) (e' := .bf16) x6 (Rect.unit ![128, 0] S128x384.size inb_S256x384_S128x384_128_0))

/-- The gradient of the rotary part of the first run of a point. -/
def dkP0 (i : grid0.Coords) (x5 : Vec F S2x896 .i32) (x7 : FVec F S256x64 .bf16) (x8 : FVec F S64x128 .f32) :
    FVec F S64x128 .f32 :=
  dkR (div7 (runNo i 0#32)) (View.ld (Val := Elt F) (e' := .i32) x5 (Rect.unit (k0_off2 i 0#32) S2x128.size (k0_off2_inb i 0)))
    (View.ld (Val := Elt F) (e' := .bf16) x7 (Rect.unit ![0, 0] S128x64.size inb_S256x64_S128x64_0_0))
    (View.ld (Val := Elt F) (e' := .f32) x8 (Rect.unit ![0, 0] S64x128.size inb_S64x128_S64x128_0_0))

/-- The gradient of the rotary part of the second run of a point. -/
def dkP1 (i : grid0.Coords) (x5 : Vec F S2x896 .i32) (x7 : FVec F S256x64 .bf16) (x8 : FVec F S64x128 .f32) :
    FVec F S64x128 .f32 :=
  dkR (div7 (runNo i 1#32)) (View.ld (Val := Elt F) (e' := .i32) x5 (Rect.unit (k0_off2 i 1#32) S2x128.size (k0_off2_inb i 1)))
    (View.ld (Val := Elt F) (e' := .bf16) x7 (Rect.unit ![128, 0] S128x64.size inb_S256x64_S128x64_128_0))
    (View.ld (Val := Elt F) (e' := .f32) x8 (Rect.unit ![0, 0] S64x128.size inb_S64x128_S64x128_0_0))

/-- What the body stores of the gradient of the inputs, second run first. -/
def pcs9 (w : FVec F S448x4096 .bf16) (dc0 dc1 : FVec F S384x128 .f32) (dk0 dk1 : FVec F S64x128 .f32) :
    List (View.Piece (Elt F) S256x4096 .bf16) :=
  [⟨Rect.unit ![128, 0] S128x4096.size inb_S256x4096_S128x4096_128_0,
      dxR dc1 dk1 (View.ld (Val := Elt F) (e' := .bf16) w (Rect.unit ![0, 0] S448x4096.size inb_S448x4096_S448x4096_0_0))⟩,
   ⟨Rect.unit ![0, 0] S128x4096.size inb_S256x4096_S128x4096_0_0,
      dxR dc0 dk0 (View.ld (Val := Elt F) (e' := .bf16) w (Rect.unit ![0, 0] S448x4096.size inb_S448x4096_S448x4096_0_0))⟩]

/-- What the body stores of the codes, second run first. -/
def pcs11 (dc0 dc1 : FVec F S384x128 .f32) (dk0 dk1 : FVec F S64x128 .f32) :
    List (View.Piece (Elt F) S256x448 .fp8e5m2) :=
  [⟨Rect.unit ![128, 0] S128x448.size inb_S256x448_S128x448_128_0, codesR dc1 dk1⟩,
   ⟨Rect.unit ![0, 0] S128x448.size inb_S256x448_S128x448_0_0, codesR dc0 dk0⟩]

/-- What the body stores of the scales, second run first. -/
def pcs12 (dc0 dc1 : FVec F S384x128 .f32) (dk0 dk1 : FVec F S64x128 .f32) :
    List (View.Piece (Elt F) S256x14 .i8) :=
  [⟨Rect.unit ![128, 0] S128x14.size inb_S256x14_S128x14_128_0, scalesR dc1 dk1⟩,
   ⟨Rect.unit ![0, 0] S128x14.size inb_S256x14_S128x14_0_0, scalesR dc0 dk0⟩]

/-- What the body stores of the gradient of the gain, second run first. -/
def pcs10 (i : grid0.Coords) (dg0 dg1 : FVec F S1x1x384 .f32) : List (View.Piece (Elt F) S2x7x384 .f32) :=
  [⟨Rect.unit (k0_off1 i 1#32) S1x1x384.size (k0_off1_inb i 1), dg1⟩,
   ⟨Rect.unit (k0_off1 i 0#32) S1x1x384.size (k0_off1_inb i 0), dg0⟩]

/-- The column of the scale that goes with each lane of a chunk of 128 columns whose first scale is `k`. -/
def idxX (k : BitVec 32) : IVec S256x128 32 :=
  let lane : IVec S256x128 32 := iota .tc S256x128 32 [1] iota_S256x128_d1_w32
  let quo : IVec S256x128 32 := divsi lane (broadcast S256x128 32#32)
  let sgn : IVec S256x128 32 := subi (extui 32 (cmpi .sgt lane (broadcast S256x128 0#32)) natLt_1_32) (extui 32 (cmpi .slt lane (broadcast S256x128 0#32)) natLt_1_32)
  let one : BitVec 32 := Scalar.subi (Scalar.extui (Scalar.cmpi .sgt 32#32 0#32)) (Scalar.extui (Scalar.cmpi .slt 32#32 0#32))
  let neg : IVec S256x128 1 := andi (cmpi .ne sgn (broadcast S256x128 one)) (cmpi .ne (remsi lane (broadcast S256x128 32#32)) (broadcast S256x128 0#32))
  let flr : IVec S256x128 32 := select neg (subi quo (broadcast S256x128 1#32)) quo
  let off : IVec S256x128 32 := addi (broadcast S256x128 k) flr
  select (cmpi .slt off (broadcast S256x128 0#32)) (addi off (broadcast S256x128 128#32)) off

/-- One chunk of 128 columns, scaled: the codes times the floats the words picked for them spell. -/
def dqX (k : BitVec 32) (words : IVec S256x128 32) (codes : Vec F S256x128 .fp8e4m3) : FVec F S256x128 .bf16 :=
  shapeCast S256x128
    (mulf (extf .bf16 codes bitsLt_fp8e4m3_bf16)
      (truncf .bf16
        (bitcastToFloat .f32
          (dynamicGather 1 words (shapeCast S256x128 (shapeCast S256x128x1 (idxX k) shapeCasts_S256x128_S256x128x1) shapeCasts_S256x128x1_S256x128)))
        bitsLt_bf16_f32))
    shapeCasts_S256x128_S256x128

/-- The column of the scale that goes with each lane of a chunk of 128 columns whose first scale is `k`. -/
def idxW (k : BitVec 32) : IVec S448x128 32 :=
  let lane : IVec S448x128 32 := iota .tc S448x128 32 [1] iota_S448x128_d1_w32
  let quo : IVec S448x128 32 := divsi lane (broadcast S448x128 32#32)
  let sgn : IVec S448x128 32 := subi (extui 32 (cmpi .sgt lane (broadcast S448x128 0#32)) natLt_1_32) (extui 32 (cmpi .slt lane (broadcast S448x128 0#32)) natLt_1_32)
  let one : BitVec 32 := Scalar.subi (Scalar.extui (Scalar.cmpi .sgt 32#32 0#32)) (Scalar.extui (Scalar.cmpi .slt 32#32 0#32))
  let neg : IVec S448x128 1 := andi (cmpi .ne sgn (broadcast S448x128 one)) (cmpi .ne (remsi lane (broadcast S448x128 32#32)) (broadcast S448x128 0#32))
  let flr : IVec S448x128 32 := select neg (subi quo (broadcast S448x128 1#32)) quo
  let off : IVec S448x128 32 := addi (broadcast S448x128 k) flr
  select (cmpi .slt off (broadcast S448x128 0#32)) (addi off (broadcast S448x128 128#32)) off

/-- One chunk of 128 columns, scaled: the codes times the floats the words picked for them spell. -/
def dqW (k : BitVec 32) (words : IVec S448x128 32) (codes : Vec F S448x128 .fp8e4m3) : FVec F S448x128 .bf16 :=
  shapeCast S448x128
    (mulf (extf .bf16 codes bitsLt_fp8e4m3_bf16)
      (truncf .bf16
        (bitcastToFloat .f32
          (dynamicGather 1 words (shapeCast S448x128 (shapeCast S448x128x1 (idxW k) shapeCasts_S448x128_S448x128x1) shapeCasts_S448x128x1_S448x128)))
        bitsLt_bf16_f32))
    shapeCasts_S448x128_S448x128

/-- What the body stores of the scaled inputs, last chunk first. -/
def pcsX (x0 : Vec F S256x4096 .fp8e4m3) (x1 : Vec F S256x128 .i8) : List (View.Piece (Elt F) S256x4096 .bf16) :=
  [⟨Rect.unit ![0, 3968] S256x128.size inb_S256x4096_S256x128_0_3968,
      dqX 124#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3968] S256x128.size inb_S256x4096_S256x128_0_3968)) shapeCasts_S256x128_S256x128)⟩,
   ⟨Rect.unit ![0, 3840] S256x128.size inb_S256x4096_S256x128_0_3840,
      dqX 120#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3840] S256x128.size inb_S256x4096_S256x128_0_3840)) shapeCasts_S256x128_S256x128)⟩,
   ⟨Rect.unit ![0, 3712] S256x128.size inb_S256x4096_S256x128_0_3712,
      dqX 116#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3712] S256x128.size inb_S256x4096_S256x128_0_3712)) shapeCasts_S256x128_S256x128)⟩,
   ⟨Rect.unit ![0, 3584] S256x128.size inb_S256x4096_S256x128_0_3584,
      dqX 112#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3584] S256x128.size inb_S256x4096_S256x128_0_3584)) shapeCasts_S256x128_S256x128)⟩,
   ⟨Rect.unit ![0, 3456] S256x128.size inb_S256x4096_S256x128_0_3456,
      dqX 108#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3456] S256x128.size inb_S256x4096_S256x128_0_3456)) shapeCasts_S256x128_S256x128)⟩,
   ⟨Rect.unit ![0, 3328] S256x128.size inb_S256x4096_S256x128_0_3328,
      dqX 104#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3328] S256x128.size inb_S256x4096_S256x128_0_3328)) shapeCasts_S256x128_S256x128)⟩,
   ⟨Rect.unit ![0, 3200] S256x128.size inb_S256x4096_S256x128_0_3200,
      dqX 100#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3200] S256x128.size inb_S256x4096_S256x128_0_3200)) shapeCasts_S256x128_S256x128)⟩,
   ⟨Rect.unit ![0, 3072] S256x128.size inb_S256x4096_S256x128_0_3072,
      dqX 96#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 3072] S256x128.size inb_S256x4096_S256x128_0_3072)) shapeCasts_S256x128_S256x128)⟩,
   ⟨Rect.unit ![0, 2944] S256x128.size inb_S256x4096_S256x128_0_2944,
      dqX 92#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2944] S256x128.size inb_S256x4096_S256x128_0_2944)) shapeCasts_S256x128_S256x128)⟩,
   ⟨Rect.unit ![0, 2816] S256x128.size inb_S256x4096_S256x128_0_2816,
      dqX 88#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2816] S256x128.size inb_S256x4096_S256x128_0_2816)) shapeCasts_S256x128_S256x128)⟩,
   ⟨Rect.unit ![0, 2688] S256x128.size inb_S256x4096_S256x128_0_2688,
      dqX 84#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2688] S256x128.size inb_S256x4096_S256x128_0_2688)) shapeCasts_S256x128_S256x128)⟩,
   ⟨Rect.unit ![0, 2560] S256x128.size inb_S256x4096_S256x128_0_2560,
      dqX 80#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2560] S256x128.size inb_S256x4096_S256x128_0_2560)) shapeCasts_S256x128_S256x128)⟩,
   ⟨Rect.unit ![0, 2432] S256x128.size inb_S256x4096_S256x128_0_2432,
      dqX 76#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2432] S256x128.size inb_S256x4096_S256x128_0_2432)) shapeCasts_S256x128_S256x128)⟩,
   ⟨Rect.unit ![0, 2304] S256x128.size inb_S256x4096_S256x128_0_2304,
      dqX 72#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2304] S256x128.size inb_S256x4096_S256x128_0_2304)) shapeCasts_S256x128_S256x128)⟩,
   ⟨Rect.unit ![0, 2176] S256x128.size inb_S256x4096_S256x128_0_2176,
      dqX 68#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2176] S256x128.size inb_S256x4096_S256x128_0_2176)) shapeCasts_S256x128_S256x128)⟩,
   ⟨Rect.unit ![0, 2048] S256x128.size inb_S256x4096_S256x128_0_2048,
      dqX 64#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 2048] S256x128.size inb_S256x4096_S256x128_0_2048)) shapeCasts_S256x128_S256x128)⟩,
   ⟨Rect.unit ![0, 1920] S256x128.size inb_S256x4096_S256x128_0_1920,
      dqX 60#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1920] S256x128.size inb_S256x4096_S256x128_0_1920)) shapeCasts_S256x128_S256x128)⟩,
   ⟨Rect.unit ![0, 1792] S256x128.size inb_S256x4096_S256x128_0_1792,
      dqX 56#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1792] S256x128.size inb_S256x4096_S256x128_0_1792)) shapeCasts_S256x128_S256x128)⟩,
   ⟨Rect.unit ![0, 1664] S256x128.size inb_S256x4096_S256x128_0_1664,
      dqX 52#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1664] S256x128.size inb_S256x4096_S256x128_0_1664)) shapeCasts_S256x128_S256x128)⟩,
   ⟨Rect.unit ![0, 1536] S256x128.size inb_S256x4096_S256x128_0_1536,
      dqX 48#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1536] S256x128.size inb_S256x4096_S256x128_0_1536)) shapeCasts_S256x128_S256x128)⟩,
   ⟨Rect.unit ![0, 1408] S256x128.size inb_S256x4096_S256x128_0_1408,
      dqX 44#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1408] S256x128.size inb_S256x4096_S256x128_0_1408)) shapeCasts_S256x128_S256x128)⟩,
   ⟨Rect.unit ![0, 1280] S256x128.size inb_S256x4096_S256x128_0_1280,
      dqX 40#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1280] S256x128.size inb_S256x4096_S256x128_0_1280)) shapeCasts_S256x128_S256x128)⟩,
   ⟨Rect.unit ![0, 1152] S256x128.size inb_S256x4096_S256x128_0_1152,
      dqX 36#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1152] S256x128.size inb_S256x4096_S256x128_0_1152)) shapeCasts_S256x128_S256x128)⟩,
   ⟨Rect.unit ![0, 1024] S256x128.size inb_S256x4096_S256x128_0_1024,
      dqX 32#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 1024] S256x128.size inb_S256x4096_S256x128_0_1024)) shapeCasts_S256x128_S256x128)⟩,
   ⟨Rect.unit ![0, 896] S256x128.size inb_S256x4096_S256x128_0_896,
      dqX 28#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 896] S256x128.size inb_S256x4096_S256x128_0_896)) shapeCasts_S256x128_S256x128)⟩,
   ⟨Rect.unit ![0, 768] S256x128.size inb_S256x4096_S256x128_0_768,
      dqX 24#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 768] S256x128.size inb_S256x4096_S256x128_0_768)) shapeCasts_S256x128_S256x128)⟩,
   ⟨Rect.unit ![0, 640] S256x128.size inb_S256x4096_S256x128_0_640,
      dqX 20#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 640] S256x128.size inb_S256x4096_S256x128_0_640)) shapeCasts_S256x128_S256x128)⟩,
   ⟨Rect.unit ![0, 512] S256x128.size inb_S256x4096_S256x128_0_512,
      dqX 16#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 512] S256x128.size inb_S256x4096_S256x128_0_512)) shapeCasts_S256x128_S256x128)⟩,
   ⟨Rect.unit ![0, 384] S256x128.size inb_S256x4096_S256x128_0_384,
      dqX 12#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 384] S256x128.size inb_S256x4096_S256x128_0_384)) shapeCasts_S256x128_S256x128)⟩,
   ⟨Rect.unit ![0, 256] S256x128.size inb_S256x4096_S256x128_0_256,
      dqX 8#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 256] S256x128.size inb_S256x4096_S256x128_0_256)) shapeCasts_S256x128_S256x128)⟩,
   ⟨Rect.unit ![0, 128] S256x128.size inb_S256x4096_S256x128_0_128,
      dqX 4#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 128] S256x128.size inb_S256x4096_S256x128_0_128)) shapeCasts_S256x128_S256x128)⟩,
   ⟨Rect.unit ![0, 0] S256x128.size inb_S256x4096_S256x128_0_0,
      dqX 0#32 (k0_pay89 (View.ld (Val := Elt F) (e' := .i8) x1 (Rect.unit ![0, 0] S256x128.size inb_S256x128_S256x128_0_0)))
        (shapeCast S256x128 (View.ld (Val := Elt F) (e' := .fp8e4m3) x0 (Rect.unit ![0, 0] S256x128.size inb_S256x4096_S256x128_0_0)) shapeCasts_S256x128_S256x128)⟩]

/-- What the body stores of the scaled weights, last chunk first. -/
def pcsW (x2 : Vec F S448x4096 .fp8e4m3) (x3 : Vec F S448x128 .i8) : List (View.Piece (Elt F) S448x4096 .bf16) :=
  [⟨Rect.unit ![0, 3968] S448x128.size inb_S448x4096_S448x128_0_3968,
      dqW 124#32 (k0_pay1 (View.ld (Val := Elt F) (e' := .i8) x3 (Rect.unit ![0, 0] S448x128.size inb_S448x128_S448x128_0_0)))
        (View.ld (Val := Elt F) (e' := .fp8e4m3) x2 (Rect.unit ![0, 3968] S448x128.size inb_S448x4096_S448x128_0_3968))⟩,
   ⟨Rect.unit ![0, 3840] S448x128.size inb_S448x4096_S448x128_0_3840,
      dqW 120#32 (k0_pay1 (View.ld (Val := Elt F) (e' := .i8) x3 (Rect.unit ![0, 0] S448x128.size inb_S448x128_S448x128_0_0)))
        (View.ld (Val := Elt F) (e' := .fp8e4m3) x2 (Rect.unit ![0, 3840] S448x128.size inb_S448x4096_S448x128_0_3840))⟩,
   ⟨Rect.unit ![0, 3712] S448x128.size inb_S448x4096_S448x128_0_3712,
      dqW 116#32 (k0_pay1 (View.ld (Val := Elt F) (e' := .i8) x3 (Rect.unit ![0, 0] S448x128.size inb_S448x128_S448x128_0_0)))
        (View.ld (Val := Elt F) (e' := .fp8e4m3) x2 (Rect.unit ![0, 3712] S448x128.size inb_S448x4096_S448x128_0_3712))⟩,
   ⟨Rect.unit ![0, 3584] S448x128.size inb_S448x4096_S448x128_0_3584,
      dqW 112#32 (k0_pay1 (View.ld (Val := Elt F) (e' := .i8) x3 (Rect.unit ![0, 0] S448x128.size inb_S448x128_S448x128_0_0)))
        (View.ld (Val := Elt F) (e' := .fp8e4m3) x2 (Rect.unit ![0, 3584] S448x128.size inb_S448x4096_S448x128_0_3584))⟩,
   ⟨Rect.unit ![0, 3456] S448x128.size inb_S448x4096_S448x128_0_3456,
      dqW 108#32 (k0_pay1 (View.ld (Val := Elt F) (e' := .i8) x3 (Rect.unit ![0, 0] S448x128.size inb_S448x128_S448x128_0_0)))
        (View.ld (Val := Elt F) (e' := .fp8e4m3) x2 (Rect.unit ![0, 3456] S448x128.size inb_S448x4096_S448x128_0_3456))⟩,
   ⟨Rect.unit ![0, 3328] S448x128.size inb_S448x4096_S448x128_0_3328,
      dqW 104#32 (k0_pay1 (View.ld (Val := Elt F) (e' := .i8) x3 (Rect.unit ![0, 0] S448x128.size inb_S448x128_S448x128_0_0)))
        (View.ld (Val := Elt F) (e' := .fp8e4m3) x2 (Rect.unit ![0, 3328] S448x128.size inb_S448x4096_S448x128_0_3328))⟩,
   ⟨Rect.unit ![0, 3200] S448x128.size inb_S448x4096_S448x128_0_3200,
      dqW 100#32 (k0_pay1 (View.ld (Val := Elt F) (e' := .i8) x3 (Rect.unit ![0, 0] S448x128.size inb_S448x128_S448x128_0_0)))
        (View.ld (Val := Elt F) (e' := .fp8e4m3) x2 (Rect.unit ![0, 3200] S448x128.size inb_S448x4096_S448x128_0_3200))⟩,
   ⟨Rect.unit ![0, 3072] S448x128.size inb_S448x4096_S448x128_0_3072,
      dqW 96#32 (k0_pay1 (View.ld (Val := Elt F) (e' := .i8) x3 (Rect.unit ![0, 0] S448x128.size inb_S448x128_S448x128_0_0)))
        (View.ld (Val := Elt F) (e' := .fp8e4m3) x2 (Rect.unit ![0, 3072] S448x128.size inb_S448x4096_S448x128_0_3072))⟩,
   ⟨Rect.unit ![0, 2944] S448x128.size inb_S448x4096_S448x128_0_2944,
      dqW 92#32 (k0_pay1 (View.ld (Val := Elt F) (e' := .i8) x3 (Rect.unit ![0, 0] S448x128.size inb_S448x128_S448x128_0_0)))
        (View.ld (Val := Elt F) (e' := .fp8e4m3) x2 (Rect.unit ![0, 2944] S448x128.size inb_S448x4096_S448x128_0_2944))⟩,
   ⟨Rect.unit ![0, 2816] S448x128.size inb_S448x4096_S448x128_0_2816,
      dqW 88#32 (k0_pay1 (View.ld (Val := Elt F) (e' := .i8) x3 (Rect.unit ![0, 0] S448x128.size inb_S448x128_S448x128_0_0)))
        (View.ld (Val := Elt F) (e' := .fp8e4m3) x2 (Rect.unit ![0, 2816] S448x128.size inb_S448x4096_S448x128_0_2816))⟩,
   ⟨Rect.unit ![0, 2688] S448x128.size inb_S448x4096_S448x128_0_2688,
      dqW 84#32 (k0_pay1 (View.ld (Val := Elt F) (e' := .i8) x3 (Rect.unit ![0, 0] S448x128.size inb_S448x128_S448x128_0_0)))
        (View.ld (Val := Elt F) (e' := .fp8e4m3) x2 (Rect.unit ![0, 2688] S448x128.size inb_S448x4096_S448x128_0_2688))⟩,
   ⟨Rect.unit ![0, 2560] S448x128.size inb_S448x4096_S448x128_0_2560,
      dqW 80#32 (k0_pay1 (View.ld (Val := Elt F) (e' := .i8) x3 (Rect.unit ![0, 0] S448x128.size inb_S448x128_S448x128_0_0)))
        (View.ld (Val := Elt F) (e' := .fp8e4m3) x2 (Rect.unit ![0, 2560] S448x128.size inb_S448x4096_S448x128_0_2560))⟩,
   ⟨Rect.unit ![0, 2432] S448x128.size inb_S448x4096_S448x128_0_2432,
      dqW 76#32 (k0_pay1 (View.ld (Val := Elt F) (e' := .i8) x3 (Rect.unit ![0, 0] S448x128.size inb_S448x128_S448x128_0_0)))
        (View.ld (Val := Elt F) (e' := .fp8e4m3) x2 (Rect.unit ![0, 2432] S448x128.size inb_S448x4096_S448x128_0_2432))⟩,
   ⟨Rect.unit ![0, 2304] S448x128.size inb_S448x4096_S448x128_0_2304,
      dqW 72#32 (k0_pay1 (View.ld (Val := Elt F) (e' := .i8) x3 (Rect.unit ![0, 0] S448x128.size inb_S448x128_S448x128_0_0)))
        (View.ld (Val := Elt F) (e' := .fp8e4m3) x2 (Rect.unit ![0, 2304] S448x128.size inb_S448x4096_S448x128_0_2304))⟩,
   ⟨Rect.unit ![0, 2176] S448x128.size inb_S448x4096_S448x128_0_2176,
      dqW 68#32 (k0_pay1 (View.ld (Val := Elt F) (e' := .i8) x3 (Rect.unit ![0, 0] S448x128.size inb_S448x128_S448x128_0_0)))
        (View.ld (Val := Elt F) (e' := .fp8e4m3) x2 (Rect.unit ![0, 2176] S448x128.size inb_S448x4096_S448x128_0_2176))⟩,
   ⟨Rect.unit ![0, 2048] S448x128.size inb_S448x4096_S448x128_0_2048,
      dqW 64#32 (k0_pay1 (View.ld (Val := Elt F) (e' := .i8) x3 (Rect.unit ![0, 0] S448x128.size inb_S448x128_S448x128_0_0)))
        (View.ld (Val := Elt F) (e' := .fp8e4m3) x2 (Rect.unit ![0, 2048] S448x128.size inb_S448x4096_S448x128_0_2048))⟩,
   ⟨Rect.unit ![0, 1920] S448x128.size inb_S448x4096_S448x128_0_1920,
      dqW 60#32 (k0_pay1 (View.ld (Val := Elt F) (e' := .i8) x3 (Rect.unit ![0, 0] S448x128.size inb_S448x128_S448x128_0_0)))
        (View.ld (Val := Elt F) (e' := .fp8e4m3) x2 (Rect.unit ![0, 1920] S448x128.size inb_S448x4096_S448x128_0_1920))⟩,
   ⟨Rect.unit ![0, 1792] S448x128.size inb_S448x4096_S448x128_0_1792,
      dqW 56#32 (k0_pay1 (View.ld (Val := Elt F) (e' := .i8) x3 (Rect.unit ![0, 0] S448x128.size inb_S448x128_S448x128_0_0)))
        (View.ld (Val := Elt F) (e' := .fp8e4m3) x2 (Rect.unit ![0, 1792] S448x128.size inb_S448x4096_S448x128_0_1792))⟩,
   ⟨Rect.unit ![0, 1664] S448x128.size inb_S448x4096_S448x128_0_1664,
      dqW 52#32 (k0_pay1 (View.ld (Val := Elt F) (e' := .i8) x3 (Rect.unit ![0, 0] S448x128.size inb_S448x128_S448x128_0_0)))
        (View.ld (Val := Elt F) (e' := .fp8e4m3) x2 (Rect.unit ![0, 1664] S448x128.size inb_S448x4096_S448x128_0_1664))⟩,
   ⟨Rect.unit ![0, 1536] S448x128.size inb_S448x4096_S448x128_0_1536,
      dqW 48#32 (k0_pay1 (View.ld (Val := Elt F) (e' := .i8) x3 (Rect.unit ![0, 0] S448x128.size inb_S448x128_S448x128_0_0)))
        (View.ld (Val := Elt F) (e' := .fp8e4m3) x2 (Rect.unit ![0, 1536] S448x128.size inb_S448x4096_S448x128_0_1536))⟩,
   ⟨Rect.unit ![0, 1408] S448x128.size inb_S448x4096_S448x128_0_1408,
      dqW 44#32 (k0_pay1 (View.ld (Val := Elt F) (e' := .i8) x3 (Rect.unit ![0, 0] S448x128.size inb_S448x128_S448x128_0_0)))
        (View.ld (Val := Elt F) (e' := .fp8e4m3) x2 (Rect.unit ![0, 1408] S448x128.size inb_S448x4096_S448x128_0_1408))⟩,
   ⟨Rect.unit ![0, 1280] S448x128.size inb_S448x4096_S448x128_0_1280,
      dqW 40#32 (k0_pay1 (View.ld (Val := Elt F) (e' := .i8) x3 (Rect.unit ![0, 0] S448x128.size inb_S448x128_S448x128_0_0)))
        (View.ld (Val := Elt F) (e' := .fp8e4m3) x2 (Rect.unit ![0, 1280] S448x128.size inb_S448x4096_S448x128_0_1280))⟩,
   ⟨Rect.unit ![0, 1152] S448x128.size inb_S448x4096_S448x128_0_1152,
      dqW 36#32 (k0_pay1 (View.ld (Val := Elt F) (e' := .i8) x3 (Rect.unit ![0, 0] S448x128.size inb_S448x128_S448x128_0_0)))
        (View.ld (Val := Elt F) (e' := .fp8e4m3) x2 (Rect.unit ![0, 1152] S448x128.size inb_S448x4096_S448x128_0_1152))⟩,
   ⟨Rect.unit ![0, 1024] S448x128.size inb_S448x4096_S448x128_0_1024,
      dqW 32#32 (k0_pay1 (View.ld (Val := Elt F) (e' := .i8) x3 (Rect.unit ![0, 0] S448x128.size inb_S448x128_S448x128_0_0)))
        (View.ld (Val := Elt F) (e' := .fp8e4m3) x2 (Rect.unit ![0, 1024] S448x128.size inb_S448x4096_S448x128_0_1024))⟩,
   ⟨Rect.unit ![0, 896] S448x128.size inb_S448x4096_S448x128_0_896,
      dqW 28#32 (k0_pay1 (View.ld (Val := Elt F) (e' := .i8) x3 (Rect.unit ![0, 0] S448x128.size inb_S448x128_S448x128_0_0)))
        (View.ld (Val := Elt F) (e' := .fp8e4m3) x2 (Rect.unit ![0, 896] S448x128.size inb_S448x4096_S448x128_0_896))⟩,
   ⟨Rect.unit ![0, 768] S448x128.size inb_S448x4096_S448x128_0_768,
      dqW 24#32 (k0_pay1 (View.ld (Val := Elt F) (e' := .i8) x3 (Rect.unit ![0, 0] S448x128.size inb_S448x128_S448x128_0_0)))
        (View.ld (Val := Elt F) (e' := .fp8e4m3) x2 (Rect.unit ![0, 768] S448x128.size inb_S448x4096_S448x128_0_768))⟩,
   ⟨Rect.unit ![0, 640] S448x128.size inb_S448x4096_S448x128_0_640,
      dqW 20#32 (k0_pay1 (View.ld (Val := Elt F) (e' := .i8) x3 (Rect.unit ![0, 0] S448x128.size inb_S448x128_S448x128_0_0)))
        (View.ld (Val := Elt F) (e' := .fp8e4m3) x2 (Rect.unit ![0, 640] S448x128.size inb_S448x4096_S448x128_0_640))⟩,
   ⟨Rect.unit ![0, 512] S448x128.size inb_S448x4096_S448x128_0_512,
      dqW 16#32 (k0_pay1 (View.ld (Val := Elt F) (e' := .i8) x3 (Rect.unit ![0, 0] S448x128.size inb_S448x128_S448x128_0_0)))
        (View.ld (Val := Elt F) (e' := .fp8e4m3) x2 (Rect.unit ![0, 512] S448x128.size inb_S448x4096_S448x128_0_512))⟩,
   ⟨Rect.unit ![0, 384] S448x128.size inb_S448x4096_S448x128_0_384,
      dqW 12#32 (k0_pay1 (View.ld (Val := Elt F) (e' := .i8) x3 (Rect.unit ![0, 0] S448x128.size inb_S448x128_S448x128_0_0)))
        (View.ld (Val := Elt F) (e' := .fp8e4m3) x2 (Rect.unit ![0, 384] S448x128.size inb_S448x4096_S448x128_0_384))⟩,
   ⟨Rect.unit ![0, 256] S448x128.size inb_S448x4096_S448x128_0_256,
      dqW 8#32 (k0_pay1 (View.ld (Val := Elt F) (e' := .i8) x3 (Rect.unit ![0, 0] S448x128.size inb_S448x128_S448x128_0_0)))
        (View.ld (Val := Elt F) (e' := .fp8e4m3) x2 (Rect.unit ![0, 256] S448x128.size inb_S448x4096_S448x128_0_256))⟩,
   ⟨Rect.unit ![0, 128] S448x128.size inb_S448x4096_S448x128_0_128,
      dqW 4#32 (k0_pay1 (View.ld (Val := Elt F) (e' := .i8) x3 (Rect.unit ![0, 0] S448x128.size inb_S448x128_S448x128_0_0)))
        (View.ld (Val := Elt F) (e' := .fp8e4m3) x2 (Rect.unit ![0, 128] S448x128.size inb_S448x4096_S448x128_0_128))⟩,
   ⟨Rect.unit ![0, 0] S448x128.size inb_S448x4096_S448x128_0_0,
      dqW 0#32 (k0_pay1 (View.ld (Val := Elt F) (e' := .i8) x3 (Rect.unit ![0, 0] S448x128.size inb_S448x128_S448x128_0_0)))
        (View.ld (Val := Elt F) (e' := .fp8e4m3) x2 (Rect.unit ![0, 0] S448x128.size inb_S448x4096_S448x128_0_0))⟩]

/-- What the body stores of the gain, last chunk first: each chunk of 128 values down the rows, the same in each column. -/
def pcsG (x4 : FVec F S1x384 .f32) : List (View.Piece (Elt F) S384x128 .f32) :=
  [⟨Rect.unit ![256, 0] S128x128.size inb_S384x128_S128x128_256_0,
      k0_pay86 (View.ld (Val := Elt F) (e' := .f32) x4 (Rect.unit ![0, 256] S1x128.size inb_S1x384_S1x128_0_256))⟩,
   ⟨Rect.unit ![128, 0] S128x128.size inb_S384x128_S128x128_128_0,
      k0_pay86 (View.ld (Val := Elt F) (e' := .f32) x4 (Rect.unit ![0, 128] S1x128.size inb_S1x384_S1x128_0_128))⟩,
   ⟨Rect.unit ![0, 0] S128x128.size inb_S384x128_S128x128_0_0,
      k0_pay86 (View.ld (Val := Elt F) (e' := .f32) x4 (Rect.unit ![0, 0] S1x128.size inb_S1x384_S1x128_0_0))⟩]

end Cert.KernelIdeal.Hand
-- ==== Proof.Spec.lean ====
/-
  The mathematics of the problem over the extended reals, row by row, and the laws of the exponent that a group of 32
  values is scaled by.
-/
module

public import Idealize.ShloMosaic.Lib.Pointwise

@[expose] public section

set_option maxRecDepth 16384

noncomputable section

namespace Cert.Spec

open Idealize.ShloMosaic

/-! ## Constants -/

/-- The latent width, 384. -/
def c384 : EReal := Idealize.ShloMosaic.Ideal.ofBits .f32 0x43C00000#32
/-- What is added to the mean square. -/
def cEps : EReal := Idealize.ShloMosaic.Ideal.ofBits .f32 0x358637BD#32
/-- One over the greatest code. -/
def cInv : EReal := Idealize.ShloMosaic.Ideal.ofBits .f32 0x37924925#32
/-- Where a maximum starts. -/
def cBot : EReal := Idealize.ShloMosaic.Ideal.ofBits .f32 0xFF800000#32
/-- The least code. -/
def cLo : EReal := Idealize.ShloMosaic.Ideal.ofBits .f32 0xC7600000#32
/-- The greatest code. -/
def cHi : EReal := Idealize.ShloMosaic.Ideal.ofBits .f32 0x47600000#32

/-- `2 ^ z`. -/
def p2 (z : ℤ) : EReal := (((2 : ℝ) ^ z : ℝ) : EReal)

/-- What a scale code stands for. -/
def scl (s : BitVec 8) : EReal := p2 ((s.toNat : ℤ) - 127)

/-! ## One row -/

/-- The reciprocal of the root mean square of a row. -/
def rstd (c : Fin 384 → EReal) : EReal :=
  Idealize.ShloMosaic.Ideal.rsqrt (Idealize.ShloMosaic.Ideal.div (∑ x, c x * c x) c384 + cEps)

/-- The gradient of the latent part of a row. -/
def dcS (c d g : Fin 384 → EReal) (o : Fin 384) : EReal :=
  rstd c * (d o * g o - c o * (rstd c * rstd c) * Idealize.ShloMosaic.Ideal.div (∑ x, d x * g x * c x) c384)

/-- What a row adds to the gradient of the gain. -/
def dgS (c d : Fin 384 → EReal) (o : Fin 384) : EReal := d o * c o * rstd c

/-- The partner of a rotary column. -/
def mate (j : Fin 64) : Fin 64 := if j.val % 2 = 0 then ⟨(j.val + 1) % 64, by omega⟩ else ⟨(j.val + 63) % 64, by omega⟩

/-- The gradient of the rotary part of a row. -/
def dkS (p : EReal) (k f : Fin 64 → EReal) (j : Fin 64) : EReal :=
  k j * Idealize.ShloMosaic.Ideal.cos (p * f j) +
    (if j.val % 2 = 0 then k (mate j) * Idealize.ShloMosaic.Ideal.sin (p * f j)
      else 0 - k (mate j) * Idealize.ShloMosaic.Ideal.sin (p * f j))

/-- The two parts side by side. -/
def rowG (a : Fin 384 → EReal) (b : Fin 64 → EReal) (o : Fin 448) : EReal :=
  if h : o.val < 384 then a ⟨o.val, h⟩ else b ⟨o.val - 384, by omega⟩

/-- The largest magnitude of a group of 32. -/
def amax (g : Fin 32 → EReal) : EReal :=
  Finset.fold max cBot (fun x => FloatOps.absf (F := Idealize.ShloMosaic.Ideal) (φ := .f32) (g x)) Finset.univ

/-- How many of `2 ^ -126, …, 2 ^ 112` are at most `v`. -/
def cnt (v : EReal) : ℕ := (Finset.univ.filter fun k : Fin 239 => p2 ((k.val : ℤ) - 126) ≤ v).card

/-- The exponent for a largest scaled magnitude `v`. -/
def eI (v : EReal) : ℤ := if v = 0 then 0 else (cnt v : ℤ) - 126

/-- A group's exponent. -/
def eG (g : Fin 32 → EReal) : ℤ := eI (amax g * cInv)

/-- A code. -/
def qG (g : Fin 32 → EReal) (y : Fin 32) : EReal := min cHi (max cLo (g y * p2 (-(eG g))))

/-- A group's scale code. -/
def sG (g : Fin 32 → EReal) : BitVec 8 := BitVec.ofInt 8 (eG g + 127)

/-- What a code and its scale stand for. -/
def vG (g : Fin 32 → EReal) (y : Fin 32) : EReal := qG g y * p2 (eG g)

/-- Group `k` of a row. -/
def grp (r : Fin 448 → EReal) (k : Fin 14) (y : Fin 32) : EReal := r ⟨32 * k.val + y.val, by omega⟩

/-- The codes of a row. -/
def qS (r : Fin 448 → EReal) (o : Fin 448) : EReal := qG (grp r ⟨o.val / 32, by omega⟩) ⟨o.val % 32, by omega⟩

/-- The values of the codes of a row. -/
def vS (r : Fin 448 → EReal) (o : Fin 448) : EReal := vG (grp r ⟨o.val / 32, by omega⟩) ⟨o.val % 32, by omega⟩

/-! ## The exponent -/

theorem cnt_le (v : EReal) : cnt v ≤ 239 := (Finset.card_le_univ _).trans (by simp)

theorem eI_bounds (v : EReal) : -126 ≤ eI v ∧ eI v ≤ 113 := by
  have := cnt_le v; unfold eI; split_ifs <;> constructor <;> omega

theorem eG_bounds (g : Fin 32 → EReal) : -126 ≤ eG g ∧ eG g ≤ 113 := eI_bounds _

theorem p2_mono {a b : ℤ} (h : a ≤ b) : p2 a ≤ p2 b :=
  EReal.coe_le_coe_iff.2 (zpow_le_zpow_right₀ (by norm_num) h)

theorem cnt_filter_eq (v : EReal) (n : ℕ) (hn : n ≤ 239)
    (h : ∀ k : Fin 239, p2 ((k.val : ℤ) - 126) ≤ v ↔ k.val < n) : cnt v = n := by
  unfold cnt
  rw [Finset.filter_congr fun k _ => h k, Fin.card_filter_val_lt]
  omega

theorem le_cnt_iff (v : EReal) (t : ℕ) (h1 : 1 ≤ t) (h2 : t ≤ 239) : p2 ((t : ℤ) - 127) ≤ v ↔ t ≤ cnt v := by
  classical
  -- the powers at most `v` are the first few
  have key : ∃ n ≤ 239, ∀ k : Fin 239, p2 ((k.val : ℤ) - 126) ≤ v ↔ k.val < n := by
    by_cases hall : ∀ k : Fin 239, p2 ((k.val : ℤ) - 126) ≤ v
    · exact ⟨239, le_rfl, fun k => ⟨fun _ => k.isLt, fun _ => hall k⟩⟩
    · push Not at hall
      have hex : ∃ n : ℕ, ∃ h : n < 239, v < p2 ((n : ℤ) - 126) := by
        obtain ⟨k, hk⟩ := hall; exact ⟨k.val, k.isLt, hk⟩
      refine ⟨Nat.find hex, (Nat.find_spec hex).1.le, fun k => ⟨fun hk => ?_, fun hk => ?_⟩⟩
      · by_contra hc
        exact absurd (lt_of_lt_of_le (Nat.find_spec hex).2 ((p2_mono (by omega)).trans hk)) (lt_irrefl _)
      · have := Nat.find_min hex hk
        push Not at this
        exact this k.isLt
  obtain ⟨n, hn, hk⟩ := key
  rw [cnt_filter_eq v n hn hk]
  have := hk ⟨t - 1, by omega⟩
  simp only [] at this
  rw [show ((t : ℤ) - 127) = (((t - 1 : ℕ) : ℤ) - 126) by omega, this]
  omega

/-! ## Powers as bit patterns -/

theorem ofBits_f32 (b : BitVec 32) : Idealize.ShloMosaic.Ideal.ofBits .f32 b = Idealize.ShloMosaic.Ideal.ieee 8 23 b := by
  simp only [Idealize.ShloMosaic.Ideal.ofBits]

theorem shl_fields : ∀ t : Fin 255,
    ((IntOp.shli .vector (BitVec.ofNat 32 t.val) 23#32).extractLsb' 23 8).toNat = t.val ∧
    ((IntOp.shli .vector (BitVec.ofNat 32 t.val) 23#32).extractLsb' 0 23).toNat = 0 ∧
    ((IntOp.shli .vector (BitVec.ofNat 32 t.val) 23#32).extractLsb' 31 1 == 1#1) = false := by
  decide +kernel

theorem ieee_pow (t : ℕ) (b : BitVec 32) (h1 : 1 ≤ t) (h2 : t ≤ 254) (he : (b.extractLsb' 23 8).toNat = t)
    (hf : (b.extractLsb' 0 23).toNat = 0) (hs : (b.extractLsb' 31 1 == 1#1) = false) :
    Idealize.ShloMosaic.Ideal.ieee 8 23 b = p2 ((t : ℤ) - 127) := by
  unfold Idealize.ShloMosaic.Ideal.ieee p2
  simp only [he, hf, show 8 + 23 = 31 from rfl, hs]
  rw [if_neg (by omega), if_neg (by omega)]
  congr 1
  simp only [Bool.false_eq_true, if_false, one_mul, Nat.add_zero]
  rw [show (((2 ^ 23 : ℕ) : ℝ)) = (2:ℝ) ^ (23:ℤ) by norm_num, ← zpow_add₀ (by norm_num)]
  congr 1
  norm_num

theorem ofBits_shl (t : ℕ) (h1 : 1 ≤ t) (h2 : t ≤ 254) :
    Idealize.ShloMosaic.Ideal.ofBits .f32 (IntOp.shli .vector (BitVec.ofNat 32 t) 23#32) = p2 ((t : ℤ) - 127) := by
  obtain ⟨a, b, c⟩ := shl_fields ⟨t, by omega⟩
  rw [ofBits_f32]
  exact ieee_pow t _ h1 h2 a b c

theorem exp2_int (z : ℤ) : Idealize.ShloMosaic.Ideal.exp2 (((z : ℝ)) : EReal) = p2 z := by
  rw [Idealize.ShloMosaic.Ideal.exp2_coe]
  unfold p2
  exact congrArg _ (Real.rpow_intCast 2 z)

theorem cInv_ne : cInv ≠ 0 := by
  unfold cInv
  rw [ofBits_f32]
  unfold Idealize.ShloMosaic.Ideal.ieee
  rw [show ((0x37924925#32).extractLsb' 23 8).toNat = 111 by decide, show ((0x37924925#32).extractLsb' 0 23).toNat = 1198373 by decide,
    show ((0x37924925#32).extractLsb' (8 + 23) 1 == 1#1) = false by decide]
  simp only []
  rw [if_neg (by norm_num), if_neg (by norm_num)]
  intro h
  have := EReal.coe_eq_zero.1 h
  norm_num at this

theorem mul_cInv_eq_zero (a : EReal) : a * cInv = 0 ↔ a = 0 := by
  rw [mul_eq_zero]
  exact ⟨fun h => h.resolve_right cInv_ne, Or.inl⟩

/-- Two to the power of an exponent between the bounds, as a bit pattern. -/
theorem ofBits_exp (z : ℤ) (h1 : -126 ≤ z) (h2 : z ≤ 127) :
    Idealize.ShloMosaic.Ideal.ofBits .f32 (IntOp.shli .vector (BitVec.ofInt 32 (z + 127)) 23#32) = p2 z := by
  obtain ⟨t, ht⟩ : ∃ t : ℕ, z + 127 = t := ⟨(z + 127).toNat, by omega⟩
  rw [ht, BitVec.ofInt_natCast, ofBits_shl t (by omega) (by omega)]
  congr 1; omega

/-! ## The search for the exponent -/

/-- One step of the search. -/
def bstep (v : EReal) (f s : BitVec 32) : BitVec 32 :=
  if v < Idealize.ShloMosaic.Ideal.ofBits .f32 (IntOp.shli .vector (IntOp.addi f s) 23#32) then f else IntOp.addi f s

theorem bstep_eq (v : EReal) (f s : ℕ) (h1 : 1 ≤ s) (h2 : f + s ≤ 239) :
    bstep v (BitVec.ofNat 32 f) (BitVec.ofNat 32 s) = BitVec.ofNat 32 (if f + s ≤ cnt v then f + s else f) := by
  have ha : IntOp.addi (BitVec.ofNat 32 f) (BitVec.ofNat 32 s) = BitVec.ofNat 32 (f + s) := by
    unfold IntOp.addi; exact (BitVec.ofNat_add f s).symm
  unfold bstep
  rw [ha, ofBits_shl (f + s) (by omega) (by omega)]
  by_cases h : f + s ≤ cnt v
  · rw [if_pos h, if_neg (not_lt.2 ((le_cnt_iff v _ (by omega) h2).2 h))]
  · rw [if_neg h, if_pos (not_le.1 fun hc => h ((le_cnt_iff v _ (by omega) h2).1 hc))]

/-- The search finds the count. -/
theorem bsearch (v : EReal) :
    bstep v (bstep v (bstep v (bstep v (bstep v (bstep v (bstep v (bstep v 0#32 120#32) 60#32) 30#32) 15#32) 7#32) 4#32) 2#32) 1#32
      = BitVec.ofNat 32 (cnt v) := by
  have hc := cnt_le v
  generalize hE : cnt v = E at hc
  have st : ∀ f s : ℕ, 1 ≤ s → f + s ≤ 239 → bstep v (BitVec.ofNat 32 f) (BitVec.ofNat 32 s) = BitVec.ofNat 32 (if f + s ≤ E then f + s else f) := by
    intro f s a b; rw [bstep_eq v f s a b, hE]
  rw [st 0 120 (by omega) (by omega)]
  generalize h1 : (if 0 + 120 ≤ E then 0 + 120 else 0) = f1
  have b1 : f1 ≤ E ∧ E ≤ f1 + 119 ∧ f1 ≤ 120 := by split_ifs at h1 <;> omega
  rw [st f1 60 (by omega) (by omega)]
  generalize h2 : (if f1 + 60 ≤ E then f1 + 60 else f1) = f2
  have b2 : f2 ≤ E ∧ E ≤ f2 + 59 ∧ f2 ≤ 180 := by split_ifs at h2 <;> omega
  rw [st f2 30 (by omega) (by omega)]
  generalize h3 : (if f2 + 30 ≤ E then f2 + 30 else f2) = f3
  have b3 : f3 ≤ E ∧ E ≤ f3 + 29 ∧ f3 ≤ 210 := by split_ifs at h3 <;> omega
  rw [st f3 15 (by omega) (by omega)]
  generalize h4 : (if f3 + 15 ≤ E then f3 + 15 else f3) = f4
  have b4 : f4 ≤ E ∧ E ≤ f4 + 14 ∧ f4 ≤ 225 := by split_ifs at h4 <;> omega
  rw [st f4 7 (by omega) (by omega)]
  generalize h5 : (if f4 + 7 ≤ E then f4 + 7 else f4) = f5
  have b5 : f5 ≤ E ∧ E ≤ f5 + 7 ∧ f5 ≤ 232 := by split_ifs at h5 <;> omega
  rw [st f5 4 (by omega) (by omega)]
  generalize h6 : (if f5 + 4 ≤ E then f5 + 4 else f5) = f6
  have b6 : f6 ≤ E ∧ E ≤ f6 + 3 ∧ f6 ≤ 236 := by split_ifs at h6 <;> omega
  rw [st f6 2 (by omega) (by omega)]
  generalize h7 : (if f6 + 2 ≤ E then f6 + 2 else f6) = f7
  have b7 : f7 ≤ E ∧ E ≤ f7 + 1 ∧ f7 ≤ 238 := by split_ifs at h7 <;> omega
  rw [st f7 1 (by omega) (by omega)]
  congr 1
  split_ifs <;> omega

/-- The exponent a group is scaled by, from the count. -/
theorem exp_word (v : EReal) :
    (if v = 0 then 0#32 else IntOp.subi (BitVec.ofNat 32 (cnt v)) 126#32) = BitVec.ofInt 32 (eI v) := by
  unfold eI
  split_ifs with h
  · rfl
  · unfold IntOp.subi
    exact (by decide +kernel : ∀ n : Fin 240, IntOp.subi (BitVec.ofNat 32 n.val) 126#32 = BitVec.ofInt 32 ((n.val : ℤ) - 126))
      ⟨cnt v, by have := cnt_le v; omega⟩

/-- A count taken by adding bits. -/
theorem count_word (P : Fin 239 → Prop) [DecidablePred P] :
    Finset.fold IntOp.addi (0#32) (fun k => if P k then 1#32 else 0#32) Finset.univ
      = BitVec.ofNat 32 (Finset.univ.filter P).card := by
  classical
  have : ∀ s : Finset (Fin 239), Finset.fold IntOp.addi (0#32) (fun k => if P k then 1#32 else 0#32) s
      = BitVec.ofNat 32 (s.filter P).card := by
    intro s
    induction s using Finset.induction_on with
    | empty => rfl
    | insert a s ha ih =>
      rw [Finset.fold_insert ha, ih, Finset.filter_insert]
      split_ifs with hp
      · rw [Finset.card_insert_of_notMem (by simp [ha])]
        unfold IntOp.addi
        rw [Nat.add_comm, BitVec.ofNat_add]
      · unfold IntOp.addi; simp
  exact this _

end Cert.Spec
-- ==== Proof.KernelValue.Elem.lean ====
/-
  The functions of `Body` over the extended reals, element by element: each is the row mathematics of `Spec` at one
  token.
-/
module

public import proofs.«01_k».proof.Proof.KernelValue.Body
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

local notation "FI" => Idealize.ShloMosaic.Ideal

/-! ## Words -/

theorem neg_word : ∀ n : Fin 240, IntOp.addi (IntOp.subi 0#32 (BitVec.ofInt 32 ((n.val : ℤ) - 126))) 127#32
    = BitVec.ofInt 32 (-((n.val : ℤ) - 126) + 127) := by decide +kernel

theorem pos_word : ∀ n : Fin 240, IntOp.addi (BitVec.ofInt 32 ((n.val : ℤ) - 126)) 127#32
    = BitVec.ofInt 32 (((n.val : ℤ) - 126) + 127) := by decide +kernel

theorem trunc_word : ∀ n : Fin 240, BitVec.setWidth 8 (IntOp.addi (BitVec.ofInt 32 ((n.val : ℤ) - 126)) 127#32)
    = BitVec.ofInt 8 (((n.val : ℤ) - 126) + 127) := by decide +kernel

theorem exists_exp (e : ℤ) (h1 : -126 ≤ e) (h2 : e ≤ 113) : ∃ n : Fin 240, e = (n.val : ℤ) - 126 :=
  ⟨⟨(e + 126).toNat, by omega⟩, by simp only []; omega⟩

/-! ## One group -/

theorem grpV_apply (g : FVec FI S32x128 .f32) (l : Fin 128) :
    grpV g (ix2 0 l) = Spec.amax (fun y => g (ix2 y l)) * Spec.cInv := by
  pointwise [grpV, grpMax, k0_pay188]
  rfl

theorem grpE_apply (g : FVec FI S32x128 .f32) (l : Fin 128) :
    grpE g (ix2 0 l) = BitVec.ofInt 32 (Spec.eG fun y => g (ix2 y l)) := by
  have hv : k0_pay188 (grpMax g) (ix2 0 l) = Spec.amax (fun y => g (ix2 y l)) * Spec.cInv := grpV_apply g l
  unfold Spec.eG
  rw [← Spec.exp_word, ← Spec.bsearch]
  unfold grpE
  pointwise [k0_pay190, k0_pay189, grpV]
  simp only [hv]
  unfold Spec.bstep
  rfl

theorem grpQ_apply (g : FVec FI S32x128 .f32) (y : Fin 32) (l : Fin 128) :
    grpQ g (ix2 y l) = Spec.qG (fun y => g (ix2 y l)) y := by
  have he : k0_pay190 (grpV g) (k0_pay189 (grpMax g)) (ix2 0 l) = _ := grpE_apply g l
  obtain ⟨n, hn⟩ := exists_exp _ (Spec.eG_bounds fun y => g (ix2 y l)).1 (Spec.eG_bounds fun y => g (ix2 y l)).2
  unfold grpQ
  pointwise [k0_pay191]
  rw [he]
  unfold Spec.qG
  rw [hn, neg_word, Spec.ofBits_exp _ (by omega) (by omega)]
  rfl

theorem grpG_apply (g : FVec FI S32x128 .f32) (y : Fin 32) (l : Fin 128) :
    grpG g (ix2 y l) = Spec.vG (fun y => g (ix2 y l)) y := by
  have he : k0_pay190 (grpV g) (k0_pay189 (grpMax g)) (ix2 0 l) = _ := grpE_apply g l
  have hq : k0_pay191 g (grpV g) (k0_pay189 (grpMax g)) (ix2 y l) = _ := grpQ_apply g y l
  obtain ⟨n, hn⟩ := exists_exp _ (Spec.eG_bounds fun y => g (ix2 y l)).1 (Spec.eG_bounds fun y => g (ix2 y l)).2
  unfold grpG
  pointwise [k0_pay192]
  rw [he, hq]
  unfold Spec.vG
  rw [hn, pos_word, Spec.ofBits_exp _ (by omega) (by omega)]

/-! ## The groups of a run -/

/-- Column `l` of the two parts of a run. -/
def rowT (dc : FVec FI S384x128 .f32) (dk : FVec FI S64x128 .f32) (l : Fin 128) : Fin 448 → EReal :=
  Spec.rowG (fun o => dc (ix2 o l)) (fun j => dk (ix2 j l))

/-- Group `k` of a run. -/
def groupT (dc : FVec FI S384x128 .f32) (dk : FVec FI S64x128 .f32) (k : Fin 14) : FVec FI S32x128 .f32 :=
  match k with
  | 0 => slC 0 slices_S384x128_o0_0_S32x128 dc
  | 1 => slC 1 slices_S384x128_o32_0_S32x128 dc
  | 2 => slC 2 slices_S384x128_o64_0_S32x128 dc
  | 3 => slC 3 slices_S384x128_o96_0_S32x128 dc
  | 4 => slC 4 slices_S384x128_o128_0_S32x128 dc
  | 5 => slC 5 slices_S384x128_o160_0_S32x128 dc
  | 6 => slC 6 slices_S384x128_o192_0_S32x128 dc
  | 7 => slC 7 slices_S384x128_o224_0_S32x128 dc
  | 8 => slC 8 slices_S384x128_o256_0_S32x128 dc
  | 9 => slC 9 slices_S384x128_o288_0_S32x128 dc
  | 10 => slC 10 slices_S384x128_o320_0_S32x128 dc
  | 11 => slC 11 slices_S384x128_o352_0_S32x128 dc
  | 12 => slR 0 slices_S64x128_o0_0_S32x128 dk
  | 13 => slR 1 slices_S64x128_o32_0_S32x128 dk

theorem slC_apply (k : ℕ) (hk : k < 12) (h : Shape.Slices S384x128 ![32 * k, 0] S32x128) (dc : FVec FI S384x128 .f32)
    (dk : FVec FI S64x128 .f32) (y : Fin 32) (l : Fin 128) :
    slC k h dc (ix2 y l) = rowT dc dk l ⟨32 * k + y.val, by omega⟩ := by
  unfold rowT Spec.rowG
  rw [dif_pos (by simp only []; omega)]
  unfold slC extractStridedSlice
  congr 1
  funext a; apply Fin.ext
  match a with
  | ⟨0, _⟩ => rfl
  | ⟨1, _⟩ => show 0 + l.val = l.val; omega

theorem slR_apply (k : ℕ) (hk : k < 2) (h : Shape.Slices S64x128 ![32 * k, 0] S32x128) (dc : FVec FI S384x128 .f32)
    (dk : FVec FI S64x128 .f32) (y : Fin 32) (l : Fin 128) :
    slR k h dk (ix2 y l) = rowT dc dk l ⟨32 * (k + 12) + y.val, by omega⟩ := by
  unfold rowT Spec.rowG
  rw [dif_neg (by simp only []; omega)]
  unfold slR extractStridedSlice
  congr 1
  funext a; apply Fin.ext
  match a with
  | ⟨0, _⟩ => show 32 * k + y.val = 32 * (k + 12) + y.val - 384; omega
  | ⟨1, _⟩ => show 0 + l.val = l.val; omega

theorem groupT_apply (dc : FVec FI S384x128 .f32) (dk : FVec FI S64x128 .f32) (l : Fin 128) (k : Fin 14) :
    (fun y => groupT dc dk k (ix2 y l)) = Spec.grp (rowT dc dk l) k := by
  funext y
  match k with
  | 0 => exact slC_apply 0 (by omega) _ dc dk y l
  | 1 => exact slC_apply 1 (by omega) _ dc dk y l
  | 2 => exact slC_apply 2 (by omega) _ dc dk y l
  | 3 => exact slC_apply 3 (by omega) _ dc dk y l
  | 4 => exact slC_apply 4 (by omega) _ dc dk y l
  | 5 => exact slC_apply 5 (by omega) _ dc dk y l
  | 6 => exact slC_apply 6 (by omega) _ dc dk y l
  | 7 => exact slC_apply 7 (by omega) _ dc dk y l
  | 8 => exact slC_apply 8 (by omega) _ dc dk y l
  | 9 => exact slC_apply 9 (by omega) _ dc dk y l
  | 10 => exact slC_apply 10 (by omega) _ dc dk y l
  | 11 => exact slC_apply 11 (by omega) _ dc dk y l
  | 12 => exact slR_apply 0 (by omega) _ dc dk y l
  | 13 => exact slR_apply 1 (by omega) _ dc dk y l

theorem concat14 {α : Type} (g : Fin 14 → S32x128.Idx → α) (o : Fin 448) (l : Fin 128) :
    concatenate S448x128 0 [⟨S32x128, g 0⟩, ⟨S32x128, g 1⟩, ⟨S32x128, g 2⟩, ⟨S32x128, g 3⟩, ⟨S32x128, g 4⟩, ⟨S32x128, g 5⟩, ⟨S32x128, g 6⟩, ⟨S32x128, g 7⟩, ⟨S32x128, g 8⟩, ⟨S32x128, g 9⟩, ⟨S32x128, g 10⟩, ⟨S32x128, g 11⟩, ⟨S32x128, g 12⟩, ⟨S32x128, g 13⟩] concatenates_S32x128_S32x128_S32x128_S32x128_S32x128_S32x128_S32x128_S32x128_S32x128_S32x128_S32x128_S32x128_S32x128_S32x128_S448x128_d0 (ix2 o l)
      = g ⟨o.val / 32, by omega⟩ (ix2 ⟨o.val % 32, by omega⟩ l) := by
  refine concatenate_ofFn_apply (t := S448x128) (s₁ := S32x128) 0 g concatenates_S32x128_S32x128_S32x128_S32x128_S32x128_S32x128_S32x128_S32x128_S32x128_S32x128_S32x128_S32x128_S32x128_S32x128_S448x128_d0 rfl 32 rfl (ix2 o l) _ rfl _ rfl ?_
  intro b hb
  match b with
  | ⟨0, _⟩ => exact absurd rfl hb
  | ⟨1, _⟩ => rfl

theorem concat16 {α : Type} (g : Fin 16 → S1x128.Idx → α) (o : Fin 16) (l : Fin 128) :
    concatenate S16x128 0 [⟨S1x128, g 0⟩, ⟨S1x128, g 1⟩, ⟨S1x128, g 2⟩, ⟨S1x128, g 3⟩, ⟨S1x128, g 4⟩, ⟨S1x128, g 5⟩, ⟨S1x128, g 6⟩, ⟨S1x128, g 7⟩, ⟨S1x128, g 8⟩, ⟨S1x128, g 9⟩, ⟨S1x128, g 10⟩, ⟨S1x128, g 11⟩, ⟨S1x128, g 12⟩, ⟨S1x128, g 13⟩, ⟨S1x128, g 14⟩, ⟨S1x128, g 15⟩] concatenates_S1x128_S1x128_S1x128_S1x128_S1x128_S1x128_S1x128_S1x128_S1x128_S1x128_S1x128_S1x128_S1x128_S1x128_S1x128_S1x128_S16x128_d0 (ix2 o l)
      = g o (ix2 0 l) := by
  refine concatenate_ofFn_apply (t := S16x128) (s₁ := S1x128) 0 g concatenates_S1x128_S1x128_S1x128_S1x128_S1x128_S1x128_S1x128_S1x128_S1x128_S1x128_S1x128_S1x128_S1x128_S1x128_S1x128_S1x128_S16x128_d0 rfl 1 rfl (ix2 o l) o (Nat.div_one _) _ (Nat.mod_one _).symm ?_
  intro b hb
  match b with
  | ⟨0, _⟩ => exact absurd rfl hb
  | ⟨1, _⟩ => rfl

/-! ## The outputs of a run -/

theorem gT_eq (dc : FVec FI S384x128 .f32) (dk : FVec FI S64x128 .f32) :
    gT dc dk = concatenate S448x128 0 [⟨S32x128, grpG (groupT dc dk 0)⟩, ⟨S32x128, grpG (groupT dc dk 1)⟩, ⟨S32x128, grpG (groupT dc dk 2)⟩, ⟨S32x128, grpG (groupT dc dk 3)⟩, ⟨S32x128, grpG (groupT dc dk 4)⟩, ⟨S32x128, grpG (groupT dc dk 5)⟩, ⟨S32x128, grpG (groupT dc dk 6)⟩, ⟨S32x128, grpG (groupT dc dk 7)⟩, ⟨S32x128, grpG (groupT dc dk 8)⟩, ⟨S32x128, grpG (groupT dc dk 9)⟩, ⟨S32x128, grpG (groupT dc dk 10)⟩, ⟨S32x128, grpG (groupT dc dk 11)⟩, ⟨S32x128, grpG (groupT dc dk 12)⟩, ⟨S32x128, grpG (groupT dc dk 13)⟩] concatenates_S32x128_S32x128_S32x128_S32x128_S32x128_S32x128_S32x128_S32x128_S32x128_S32x128_S32x128_S32x128_S32x128_S32x128_S448x128_d0 := rfl

theorem gT_apply (dc : FVec FI S384x128 .f32) (dk : FVec FI S64x128 .f32) (o : Fin 448) (l : Fin 128) :
    gT dc dk (ix2 o l) = Spec.vS (rowT dc dk l) o := by
  have h := concat14 (fun k => grpG (groupT dc dk k)) o l
  rw [grpG_apply, groupT_apply] at h
  rw [gT_eq]
  exact h

/-- The codes of a run, groups stacked. -/
def codT (dc : FVec FI S384x128 .f32) (dk : FVec FI S64x128 .f32) : FVec FI S448x128 .bf16 :=
  concatenate S448x128 0 [⟨S32x128, grpQ (groupT dc dk 0)⟩, ⟨S32x128, grpQ (groupT dc dk 1)⟩, ⟨S32x128, grpQ (groupT dc dk 2)⟩, ⟨S32x128, grpQ (groupT dc dk 3)⟩, ⟨S32x128, grpQ (groupT dc dk 4)⟩, ⟨S32x128, grpQ (groupT dc dk 5)⟩, ⟨S32x128, grpQ (groupT dc dk 6)⟩, ⟨S32x128, grpQ (groupT dc dk 7)⟩, ⟨S32x128, grpQ (groupT dc dk 8)⟩, ⟨S32x128, grpQ (groupT dc dk 9)⟩, ⟨S32x128, grpQ (groupT dc dk 10)⟩, ⟨S32x128, grpQ (groupT dc dk 11)⟩, ⟨S32x128, grpQ (groupT dc dk 12)⟩, ⟨S32x128, grpQ (groupT dc dk 13)⟩] concatenates_S32x128_S32x128_S32x128_S32x128_S32x128_S32x128_S32x128_S32x128_S32x128_S32x128_S32x128_S32x128_S32x128_S32x128_S448x128_d0

theorem codesR_eq (dc : FVec FI S384x128 .f32) (dk : FVec FI S64x128 .f32) :
    codesR dc dk = (truncf .fp8e5m2 (transpose S128x448 [1, 0] (codT dc dk) transposes_S448x128_p1_0_S128x448) bitsLt_fp8e5m2_bf16 : FVec FI S128x448 .fp8e5m2) := rfl

theorem codT_apply (dc : FVec FI S384x128 .f32) (dk : FVec FI S64x128 .f32) (l : Fin 128) (o : Fin 448) :
    codT dc dk (ix2 o l) = Spec.qS (rowT dc dk l) o := by
  have h := concat14 (fun k => grpQ (groupT dc dk k)) o l
  rw [grpQ_apply, groupT_apply] at h
  exact h

theorem turn_apply (v : FVec FI S448x128 .bf16) (l : Fin 128) (o : Fin 448) :
    (truncf .fp8e5m2 (transpose S128x448 [1, 0] v transposes_S448x128_p1_0_S128x448) bitsLt_fp8e5m2_bf16 : FVec FI S128x448 .fp8e5m2) (ix2 l o) = v (ix2 o l) := by
  pointwise []
  try rfl

theorem codesR_apply (dc : FVec FI S384x128 .f32) (dk : FVec FI S64x128 .f32) (l : Fin 128) (o : Fin 448) :
    codesR dc dk (ix2 l o) = Spec.qS (rowT dc dk l) o := by
  rw [codesR_eq, turn_apply, codT_apply]

/-- The groups whose exponents the body stacks: fourteen, the last one repeated. -/
def gidx (j : Fin 16) : Fin 14 := ⟨min j.val 13, by omega⟩

/-- The exponents of a run, stacked. -/
def expT (dc : FVec FI S384x128 .f32) (dk : FVec FI S64x128 .f32) : IVec S16x128 32 :=
  concatenate S16x128 0 [⟨S1x128, grpE (groupT dc dk 0)⟩, ⟨S1x128, grpE (groupT dc dk 1)⟩, ⟨S1x128, grpE (groupT dc dk 2)⟩, ⟨S1x128, grpE (groupT dc dk 3)⟩, ⟨S1x128, grpE (groupT dc dk 4)⟩, ⟨S1x128, grpE (groupT dc dk 5)⟩, ⟨S1x128, grpE (groupT dc dk 6)⟩, ⟨S1x128, grpE (groupT dc dk 7)⟩, ⟨S1x128, grpE (groupT dc dk 8)⟩, ⟨S1x128, grpE (groupT dc dk 9)⟩, ⟨S1x128, grpE (groupT dc dk 10)⟩, ⟨S1x128, grpE (groupT dc dk 11)⟩, ⟨S1x128, grpE (groupT dc dk 12)⟩, ⟨S1x128, grpE (groupT dc dk 13)⟩, ⟨S1x128, grpE (groupT dc dk 13)⟩, ⟨S1x128, grpE (groupT dc dk 13)⟩] concatenates_S1x128_S1x128_S1x128_S1x128_S1x128_S1x128_S1x128_S1x128_S1x128_S1x128_S1x128_S1x128_S1x128_S1x128_S1x128_S1x128_S16x128_d0

theorem scalesR_eq (dc : FVec FI S384x128 .f32) (dk : FVec FI S64x128 .f32) :
    scalesR dc dk = k0_pay438 (expT dc dk) 127#32 := rfl

theorem expT_apply (dc : FVec FI S384x128 .f32) (dk : FVec FI S64x128 .f32) (k : Fin 16) (l : Fin 128) :
    expT dc dk (ix2 k l) = BitVec.ofInt 32 (Spec.eG (Spec.grp (rowT dc dk l) (gidx k))) := by
  rw [← groupT_apply, ← grpE_apply]
  exact concat16 (fun j => grpE (groupT dc dk (gidx j))) k l

theorem pay438_apply (v : IVec S16x128 32) (l : Fin 128) (k : Fin 14) :
    k0_pay438 v 127#32 (ix2 l k) = BitVec.setWidth 8 (IntOp.addi (v (ix2 ⟨k.val, by omega⟩ l)) 127#32) := by
  pointwise [k0_pay438]
  try rfl

theorem gidx_val (k : Fin 14) : gidx ⟨k.val, by omega⟩ = k := by
  revert k; decide

theorem scalesR_apply (dc : FVec FI S384x128 .f32) (dk : FVec FI S64x128 .f32) (l : Fin 128) (k : Fin 14) :
    scalesR dc dk (ix2 l k) = Spec.sG (Spec.grp (rowT dc dk l) k) := by
  obtain ⟨n, hn⟩ := exists_exp _ (Spec.eG_bounds (Spec.grp (rowT dc dk l) k)).1 (Spec.eG_bounds (Spec.grp (rowT dc dk l) k)).2
  rw [scalesR_eq, pay438_apply, expT_apply, gidx_val, hn, trunc_word]
  unfold Spec.sG
  rw [hn]

theorem dxR_apply (dc : FVec FI S384x128 .f32) (dk : FVec FI S64x128 .f32) (w : FVec FI S448x4096 .bf16) (l : Fin 128) (d : Fin 4096) :
    dxR dc dk w (ix2 l d) = ∑ o, Spec.vS (rowT dc dk l) o * w (ix2 o d) := by
  unfold dxR
  have h := fun o => gT_apply dc dk o l
  generalize gT dc dk = v at h ⊢
  pointwise [k0_pay439]
  exact Finset.sum_congr rfl fun o _ => by rw [h]

end Cert.KernelIdeal.Hand
-- ==== Proof.KernelValue.Rows.lean ====
/-
  The latent part and the rotary part of a run over the extended reals, one token at a time.
-/
module

public import proofs.«01_k».proof.Proof.KernelValue.Elem

@[expose] public section

set_option maxRecDepth 16384

noncomputable section

namespace Cert.KernelIdeal.Hand

open Cert.KernelIdeal Cert.KernelIdeal.Gen
open Idealize.ShloMosaic Idealize.ShloMosaic.TcCoe

local notation "FI" => Idealize.ShloMosaic.Ideal

theorem cf0_apply (w : FVec FI S384x4096 .bf16) (x : FVec FI S256x4096 .bf16) (o : Fin 384) (l : Fin 128) :
    cf0 w x (ix2 o l) = ∑ k : Fin 4096, w (ix2 o k) * x (ix2 ⟨l.val, by omega⟩ k) := by
  pointwise [cf0, k0_pay179, k0_pay178]

theorem cf1_apply (w : FVec FI S384x4096 .bf16) (x : FVec FI S256x4096 .bf16) (o : Fin 384) (l : Fin 128) :
    cf1 w x (ix2 o l) = ∑ k : Fin 4096, w (ix2 o k) * x (ix2 ⟨128 + l.val, by omega⟩ k) := by
  pointwise [cf1, k0_pay303, k0_pay178]

theorem dcR_apply (gain : FVec FI S384x128 .f32) (cf : FVec FI S384x128 .f32) (dc : FVec FI S128x384 .bf16) (o : Fin 384) (l : Fin 128) :
    dcR gain cf dc (ix2 o l) = Spec.dcS (fun k => cf (ix2 k l)) (fun k => dc (ix2 l k)) (fun k => gain (ix2 k l)) o := by
  pointwise [dcR, k0_pay184, k0_pay180, k0_pay181]
  rfl

theorem dgR_apply (cf : FVec FI S384x128 .f32) (dc : FVec FI S128x384 .bf16) (o : Fin 384) :
    dgR cf dc (ix3 0 0 o) = ∑ l : Fin 128, Spec.dgS (fun k => cf (ix2 k l)) (fun k => dc (ix2 l k)) o := by
  pointwise [dgR, k0_pay183, k0_pay182, k0_pay180, k0_pay181]
  rfl

theorem pick_row (q : Fin 2) (p : Fin 2 → BitVec 32) :
    Finset.fold IntOp.addi (0#32)
      (fun x : Fin 2 => Scalar.select (IntOp.cmpi .eq (BitVec.ofNat 32 x.val) (BitVec.ofNat 32 q.val)) (p x) 0#32) Finset.univ = p q := by
  match q with
  | 0 =>
    show p 0 + (0#32 + 0#32) = p 0
    simp
  | 1 =>
    show 0#32 + (p 1 + 0#32) = p 1
    simp

theorem even_word : ∀ j : Fin 64, IntOp.cmpi .eq (IntOp.andi (BitVec.ofNat 32 j.val) 1#32) 0#32 = if j.val % 2 = 0 then 1#1 else 0#1 := by
  decide +kernel

theorem dkR_apply (q : Fin 2) (pos : Vec FI S2x128 .i32) (dk : FVec FI S128x64 .bf16) (invf : FVec FI S64x128 .f32) (j : Fin 64) (l : Fin 128) :
    dkR (BitVec.ofNat 32 q.val) pos dk invf (ix2 j l)
      = Spec.dkS (FloatOps.sitofp (F := FI) .f32 (pos (ix2 q l))) (fun j => dk (ix2 l j)) (fun j => invf (ix2 j l)) j := by
  pointwise [dkR, k0_pay310]
  rw [pick_row q (fun x => pos (ix2 x l)), even_word]
  unfold Spec.dkS Spec.mate
  by_cases h : j.val % 2 = 0
  · simp only [if_pos h]
    rfl
  · simp only [if_neg h]
    have e : (⟨(j.val + 64 - 1) % 64, Nat.mod_lt _ (by decide)⟩ : Fin 64) = ⟨(j.val + 63) % 64, Nat.mod_lt _ (by decide)⟩ := Fin.ext rfl
    rfl

/-! ## The rows of a point -/

/-- The product's row at a row of a tile. -/
def cP (w : FVec FI S448x4096 .bf16) (x : FVec FI S256x4096 .bf16) (r : Fin 256) (o : Fin 384) : EReal :=
  ∑ k : Fin 4096, w (ix2 ⟨o.val, by omega⟩ k) * x (ix2 r k)

/-- The gradient a row of a tile is quantised from. -/
def rowP (w : FVec FI S448x4096 .bf16) (x : FVec FI S256x4096 .bf16) (gain : FVec FI S384x128 .f32)
    (x6 : FVec FI S256x384 .bf16) (p : Fin 256 → EReal) (x7 : FVec FI S256x64 .bf16) (x8 : FVec FI S64x128 .f32)
    (r : Fin 256) : Fin 448 → EReal :=
  Spec.rowG (Spec.dcS (cP w x r) (fun o => x6 (ix2 r o)) (fun o => gain (ix2 o ⟨r.val % 128, by omega⟩)))
    (Spec.dkS (p r) (fun j => x7 (ix2 r j)) (fun j => x8 (ix2 j ⟨r.val % 128, by omega⟩)))

/-- The position of a row of the tile of point `i`. -/
def posP (i : grid0.Coords) (x5 : Vec FI S2x896 .i32) (r : Fin 256) : EReal :=
  FloatOps.sitofp (F := FI) .f32
    (x5 (ix2 ⟨(((i 0).val * 256 + r.val) / 896) % 2, by omega⟩ ⟨((i 0).val * 256 + r.val) % 896, by omega⟩))

theorem runs_word : ∀ i : grid0.Coords, ∀ r : Fin 2,
    div7 (runNo i (BitVec.ofNat 32 r.val)) = BitVec.ofNat 32 (((2 * (i 0).val + r.val) / 7)) := by
  decide +kernel

theorem off1_val : ∀ i : grid0.Coords, ∀ r : Fin 2,
    k0_off1 i (BitVec.ofNat 32 r.val) = ![(2 * (i 0).val + r.val) / 7, (2 * (i 0).val + r.val) % 7, 0] := by
  decide +kernel

theorem off2_val : ∀ i : grid0.Coords, ∀ r : Fin 2,
    k0_off2 i (BitVec.ofNat 32 r.val) = ![0, (2 * (i 0).val + r.val) % 7 * 128] := by
  decide +kernel

theorem run_row (t l r : ℕ) (ht : t < 7) (hr : r < 2) (hl : l < 128) : (2 * t + r) / 7 = ((t * 256 + (128 * r + l)) / 896) % 2 := by
  have h1 : (t * 256 + (128 * r + l)) / 896 = (t * 256 + (128 * r + l)) / 128 / 7 := by rw [Nat.div_div_eq_div_mul]
  have h2 : (t * 256 + (128 * r + l)) / 128 = 2 * t + r := by omega
  rw [h1, h2]
  omega

theorem dcP0_apply (w : FVec FI S448x4096 .bf16) (x : FVec FI S256x4096 .bf16) (gain : FVec FI S384x128 .f32)
    (x6 : FVec FI S256x384 .bf16) (o : Fin 384) (l : Fin 128) :
    dcP0 w x gain x6 (ix2 o l)
      = Spec.dcS (cP w x ⟨l.val, by omega⟩) (fun o => x6 (ix2 ⟨l.val, by omega⟩ o)) (fun o => gain (ix2 o l)) o := by
  unfold dcP0
  rw [dcR_apply]
  congr 1
  · funext k
    rw [cf0_apply]
    unfold cP
    pointwise []
  · funext k
    pointwise []
  · funext k
    pointwise []

theorem dcP1_apply (w : FVec FI S448x4096 .bf16) (x : FVec FI S256x4096 .bf16) (gain : FVec FI S384x128 .f32)
    (x6 : FVec FI S256x384 .bf16) (o : Fin 384) (l : Fin 128) :
    dcP1 w x gain x6 (ix2 o l)
      = Spec.dcS (cP w x ⟨128 + l.val, by omega⟩) (fun o => x6 (ix2 ⟨128 + l.val, by omega⟩ o)) (fun o => gain (ix2 o l)) o := by
  unfold dcP1
  rw [dcR_apply]
  congr 1
  · funext k
    rw [cf1_apply]
    unfold cP
    pointwise []
  · funext k
    pointwise []
  · funext k
    pointwise []

theorem dgP0_apply (w : FVec FI S448x4096 .bf16) (x : FVec FI S256x4096 .bf16)
    (x6 : FVec FI S256x384 .bf16) (o : Fin 384) :
    dgP0 w x x6 (ix3 0 0 o)
      = ∑ l : Fin 128, Spec.dgS (cP w x ⟨l.val, by omega⟩) (fun o => x6 (ix2 ⟨l.val, by omega⟩ o)) o := by
  unfold dgP0
  rw [dgR_apply]
  refine Finset.sum_congr rfl fun l _ => ?_
  congr 1
  · funext k
    rw [cf0_apply]
    unfold cP
    pointwise []
  · funext k
    pointwise []

theorem dgP1_apply (w : FVec FI S448x4096 .bf16) (x : FVec FI S256x4096 .bf16)
    (x6 : FVec FI S256x384 .bf16) (o : Fin 384) :
    dgP1 w x x6 (ix3 0 0 o)
      = ∑ l : Fin 128, Spec.dgS (cP w x ⟨128 + l.val, by omega⟩) (fun o => x6 (ix2 ⟨128 + l.val, by omega⟩ o)) o := by
  unfold dgP1
  rw [dgR_apply]
  refine Finset.sum_congr rfl fun l _ => ?_
  congr 1
  · funext k
    rw [cf1_apply]
    unfold cP
    pointwise []
  · funext k
    pointwise []

theorem dkP0_apply (i : grid0.Coords) (x5 : Vec FI S2x896 .i32) (x7 : FVec FI S256x64 .bf16) (x8 : FVec FI S64x128 .f32)
    (j : Fin 64) (l : Fin 128) :
    dkP0 i x5 x7 x8 (ix2 j l)
      = Spec.dkS (posP i x5 ⟨l.val, by omega⟩) (fun j => x7 (ix2 ⟨l.val, by omega⟩ j)) (fun j => x8 (ix2 j l)) j := by
  have hi : (i 0).val < 7 := (i 0).isLt
  unfold dkP0
  rw [show div7 (runNo i 0#32) = BitVec.ofNat 32 ((⟨(2 * (i 0).val + 0) / 7, by omega⟩ : Fin 2)).val from runs_word i 0, dkR_apply]
  congr 1
  · unfold posP
    congr 1
    show x5 _ = x5 _
    congr 1
    have h := off2_val i 0
    funext a; apply Fin.ext
    match a with
    | ⟨0, _⟩ =>
      show k0_off2 i (BitVec.ofNat 32 (0 : Fin 2).val) 0 + 1 * ((2 * (i 0).val + 0) / 7) = (((i 0).val * 256 + l.val) / 896) % 2
      rw [h]
      have e := run_row (i 0).val l.val 0 hi (by decide) l.isLt
      show 0 + 1 * ((2 * (i 0).val + 0) / 7) = _
      rw [Nat.mul_zero, Nat.zero_add] at e
      rw [Nat.zero_add, Nat.one_mul, e]
    | ⟨1, _⟩ =>
      show k0_off2 i (BitVec.ofNat 32 (0 : Fin 2).val) 1 + 1 * l.val = ((i 0).val * 256 + l.val) % 896
      rw [h]
      show (2 * (i 0).val + 0) % 7 * 128 + 1 * l.val = _
      omega
  · funext k
    pointwise []
  · funext k
    pointwise []

theorem dkP1_apply (i : grid0.Coords) (x5 : Vec FI S2x896 .i32) (x7 : FVec FI S256x64 .bf16) (x8 : FVec FI S64x128 .f32)
    (j : Fin 64) (l : Fin 128) :
    dkP1 i x5 x7 x8 (ix2 j l)
      = Spec.dkS (posP i x5 ⟨128 + l.val, by omega⟩) (fun j => x7 (ix2 ⟨128 + l.val, by omega⟩ j)) (fun j => x8 (ix2 j l)) j := by
  have hi : (i 0).val < 7 := (i 0).isLt
  unfold dkP1
  rw [show div7 (runNo i 1#32) = BitVec.ofNat 32 ((⟨(2 * (i 0).val + 1) / 7, by omega⟩ : Fin 2)).val from runs_word i 1, dkR_apply]
  congr 1
  · unfold posP
    congr 1
    show x5 _ = x5 _
    congr 1
    have h := off2_val i 1
    funext a; apply Fin.ext
    match a with
    | ⟨0, _⟩ =>
      show k0_off2 i (BitVec.ofNat 32 (1 : Fin 2).val) 0 + 1 * ((2 * (i 0).val + 1) / 7) = (((i 0).val * 256 + (128 + l.val)) / 896) % 2
      rw [h]
      have e := run_row (i 0).val l.val 1 hi (by decide) l.isLt
      show 0 + 1 * ((2 * (i 0).val + 1) / 7) = _
      rw [Nat.mul_one] at e
      rw [Nat.zero_add, Nat.one_mul, e]
    | ⟨1, _⟩ =>
      show k0_off2 i (BitVec.ofNat 32 (1 : Fin 2).val) 1 + 1 * l.val = ((i 0).val * 256 + (128 + l.val)) % 896
      rw [h]
      show (2 * (i 0).val + 1) % 7 * 128 + 1 * l.val = _
      omega
  · funext k
    pointwise []
  · funext k
    pointwise []

/-- A row of the first run is a row of the tile. -/
theorem rowT_0 (i : grid0.Coords) (w : FVec FI S448x4096 .bf16) (x : FVec FI S256x4096 .bf16) (gain : FVec FI S384x128 .f32)
    (x5 : Vec FI S2x896 .i32) (x6 : FVec FI S256x384 .bf16) (x7 : FVec FI S256x64 .bf16) (x8 : FVec FI S64x128 .f32) (l : Fin 128) :
    rowT (dcP0 w x gain x6) (dkP0 i x5 x7 x8) l = rowP w x gain x6 (posP i x5) x7 x8 ⟨l.val, by omega⟩ := by
  have e : (⟨l.val % 128, by omega⟩ : Fin 128) = l := Fin.ext (Nat.mod_eq_of_lt l.isLt)
  unfold rowT rowP
  congr 1
  · funext o
    rw [dcP0_apply]
    simp only [e]
  · funext j
    rw [dkP0_apply]
    simp only [e]

/-- A row of the second run is a row of the tile. -/
theorem rowT_1 (i : grid0.Coords) (w : FVec FI S448x4096 .bf16) (x : FVec FI S256x4096 .bf16) (gain : FVec FI S384x128 .f32)
    (x5 : Vec FI S2x896 .i32) (x6 : FVec FI S256x384 .bf16) (x7 : FVec FI S256x64 .bf16) (x8 : FVec FI S64x128 .f32) (l : Fin 128) :
    rowT (dcP1 w x gain x6) (dkP1 i x5 x7 x8) l = rowP w x gain x6 (posP i x5) x7 x8 ⟨128 + l.val, by omega⟩ := by
  have e : (⟨(128 + l.val) % 128, by omega⟩ : Fin 128) = l := Fin.ext (by show (128 + l.val) % 128 = l.val; omega)
  unfold rowT rowP
  congr 1
  · funext o
    rw [dcP1_apply]
    simp only [e]
  · funext j
    rw [dkP1_apply]
    simp only [e]

end Cert.KernelIdeal.Hand
-- ==== Proof.KernelValue.Scaled.lean ====
/-
  The scaled inputs and weights, and the gain spread over the lanes: what the stores of the scratch arrays leave in
  them, as functions of the whole array.
-/
module

public import proofs.«01_k».proof.Proof.KernelValue.Elem
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

local notation "FI" => Idealize.ShloMosaic.Ideal

theorem idxX_row (k : BitVec 32) (r : Fin 256) (l : Fin 128) : idxX k (ix2 r l) = idxX k (ix2 0 l) := rfl
theorem idxW_row (k : BitVec 32) (r : Fin 448) (l : Fin 128) : idxW k (ix2 r l) = idxW k (ix2 0 l) := rfl

theorem idxX_val : ∀ j : Fin 32, ∀ l : Fin 128, (idxX (BitVec.ofNat 32 (4 * j.val)) (ix2 0 l)).toNat % 128 = 4 * j.val + l.val / 32 := by
  decide +kernel

theorem idxW_val : ∀ j : Fin 32, ∀ l : Fin 128, (idxW (BitVec.ofNat 32 (4 * j.val)) (ix2 0 l)).toNat % 128 = 4 * j.val + l.val / 32 := by
  decide +kernel

theorem scale_word (s : BitVec 8) (h1 : 1 ≤ s.toNat) (h2 : s.toNat ≤ 254) :
    Idealize.ShloMosaic.Ideal.ofBits .f32 (IntOp.shli .vector (BitVec.setWidth 32 s) 23#32) = Spec.scl s := by
  have e : BitVec.setWidth 32 s = BitVec.ofNat 32 s.toNat := by
    apply BitVec.eq_of_toNat_eq
    simp
  rw [e, Spec.ofBits_shl _ h1 h2]
  rfl

theorem dqX_apply (j : Fin 32) (s : Vec FI S256x128 .i8) (codes : Vec FI S256x128 .fp8e4m3) (r : Fin 256) (l : Fin 128)
    (h : ∀ y, 1 ≤ (s y).toNat ∧ (s y).toNat ≤ 254) :
    dqX (F := FI) (BitVec.ofNat 32 (4 * j.val)) (k0_pay89 s) codes (ix2 r l) = codes (ix2 r l) * Spec.scl (s (ix2 r ⟨4 * j.val + l.val / 32, by omega⟩)) := by
  have e : ∀ hb, (⟨(idxX (BitVec.ofNat 32 (4 * j.val)) (ix2 r l)).toNat % 128, hb⟩ : Fin 128) = ⟨4 * j.val + l.val / 32, by omega⟩ :=
    fun _ => Fin.ext ((congrArg (fun b : BitVec 32 => b.toNat % 128) (idxX_row _ r l)).trans (idxX_val j l))
  pointwise [dqX, k0_pay89]
  rw [e, scale_word _ (h _).1 (h _).2]

/-- The array the stores of `pcsX` fill: the codes times their scales. -/
def allX (x : Vec FI S256x4096 .fp8e4m3) (s : Vec FI S256x128 .i8) : Vec FI S256x4096 .bf16 :=
  fun y => x (ix2 ⟨(y 0).val, (y 0).isLt⟩ ⟨(y 1).val, (y 1).isLt⟩) * Spec.scl (s (ix2 ⟨(y 0).val, (y 0).isLt⟩ ⟨(y 1).val / 32, Nat.div_lt_of_lt_mul (y 1).isLt⟩))

theorem pieceX (x : Vec FI S256x4096 .fp8e4m3) (s : Vec FI S256x128 .i8) (h : ∀ y, 1 ≤ (s y).toNat ∧ (s y).toNat ≤ 254)
    (j : Fin 32) (off : Fin 2 → ℕ) (hoff : off = ![0, 128 * j.val]) (hin : ∀ a, off a + S256x128.size a ≤ S256x4096.size a)
    (k : BitVec 32) (hk : k = BitVec.ofNat 32 (4 * j.val)) (hs0 : ∀ a, (![0, 0] : Fin 2 → ℕ) a + S256x128.size a ≤ S256x128.size a)
    (z : S256x128.Idx) :
    dqX (F := FI) k (k0_pay89 (View.ld (Val := Elt FI) (e' := .i8) s (Rect.unit ![0, 0] S256x128.size hs0)))
        (shapeCast S256x128 (View.ld (Val := Elt FI) (e' := .fp8e4m3) x (Rect.unit off S256x128.size hin)) shapeCasts_S256x128_S256x128) z
      = allX x s ((Rect.unit (s := S256x4096) off S256x128.size hin).emb z) := by
  subst hoff; subst hk
  obtain ⟨r, l, rfl⟩ : ∃ (r : Fin 256) (l : Fin 128), z = ix2 r l := ⟨z 0, z 1, by funext a; match a with | ⟨0, _⟩ => rfl | ⟨1, _⟩ => rfl⟩
  rw [View.ld_unit_zero (S := S256x128) (by funext a; match a with | ⟨0, _⟩ => rfl | ⟨1, _⟩ => rfl), dqX_apply j s _ r l h]
  pointwise []
  unfold allX
  congr 1
  · congr 1
    funext a; apply Fin.ext
    match a with
    | ⟨0, _⟩ => show _ = 0 + 1 * r.val; simp
    | ⟨1, _⟩ => show _ = 128 * j.val + 1 * l.val; simp
  · congr 2
    funext a; apply Fin.ext
    match a with
    | ⟨0, _⟩ => show r.val = 0 + 1 * r.val; omega
    | ⟨1, _⟩ => show 4 * j.val + l.val / 32 = (128 * j.val + 1 * l.val) / 32; omega

theorem piecesX (x : Vec FI S256x4096 .fp8e4m3) (s : Vec FI S256x128 .i8) (h : ∀ y, 1 ≤ (s y).toNat ∧ (s y).toNat ≤ 254) :
    ∀ p ∈ pcsX (F := FI) x s, ∀ z : p.1.shape.Idx, p.2 z = allX x s (p.1.emb z) := by
  unfold pcsX
  refine List.forall_mem_cons.2 ⟨pieceX x s h 31 _ rfl _ _ rfl _, List.forall_mem_cons.2 ⟨pieceX x s h 30 _ rfl _ _ rfl _, List.forall_mem_cons.2 ⟨pieceX x s h 29 _ rfl _ _ rfl _, List.forall_mem_cons.2 ⟨pieceX x s h 28 _ rfl _ _ rfl _, List.forall_mem_cons.2 ⟨pieceX x s h 27 _ rfl _ _ rfl _, List.forall_mem_cons.2 ⟨pieceX x s h 26 _ rfl _ _ rfl _, List.forall_mem_cons.2 ⟨pieceX x s h 25 _ rfl _ _ rfl _, List.forall_mem_cons.2 ⟨pieceX x s h 24 _ rfl _ _ rfl _, List.forall_mem_cons.2 ⟨pieceX x s h 23 _ rfl _ _ rfl _, List.forall_mem_cons.2 ⟨pieceX x s h 22 _ rfl _ _ rfl _, List.forall_mem_cons.2 ⟨pieceX x s h 21 _ rfl _ _ rfl _, List.forall_mem_cons.2 ⟨pieceX x s h 20 _ rfl _ _ rfl _, List.forall_mem_cons.2 ⟨pieceX x s h 19 _ rfl _ _ rfl _, List.forall_mem_cons.2 ⟨pieceX x s h 18 _ rfl _ _ rfl _, List.forall_mem_cons.2 ⟨pieceX x s h 17 _ rfl _ _ rfl _, List.forall_mem_cons.2 ⟨pieceX x s h 16 _ rfl _ _ rfl _, List.forall_mem_cons.2 ⟨pieceX x s h 15 _ rfl _ _ rfl _, List.forall_mem_cons.2 ⟨pieceX x s h 14 _ rfl _ _ rfl _, List.forall_mem_cons.2 ⟨pieceX x s h 13 _ rfl _ _ rfl _, List.forall_mem_cons.2 ⟨pieceX x s h 12 _ rfl _ _ rfl _, List.forall_mem_cons.2 ⟨pieceX x s h 11 _ rfl _ _ rfl _, List.forall_mem_cons.2 ⟨pieceX x s h 10 _ rfl _ _ rfl _, List.forall_mem_cons.2 ⟨pieceX x s h 9 _ rfl _ _ rfl _, List.forall_mem_cons.2 ⟨pieceX x s h 8 _ rfl _ _ rfl _, List.forall_mem_cons.2 ⟨pieceX x s h 7 _ rfl _ _ rfl _, List.forall_mem_cons.2 ⟨pieceX x s h 6 _ rfl _ _ rfl _, List.forall_mem_cons.2 ⟨pieceX x s h 5 _ rfl _ _ rfl _, List.forall_mem_cons.2 ⟨pieceX x s h 4 _ rfl _ _ rfl _, List.forall_mem_cons.2 ⟨pieceX x s h 3 _ rfl _ _ rfl _, List.forall_mem_cons.2 ⟨pieceX x s h 2 _ rfl _ _ rfl _, List.forall_mem_cons.2 ⟨pieceX x s h 1 _ rfl _ _ rfl _, List.forall_mem_cons.2 ⟨pieceX x s h 0 _ rfl _ _ rfl _, List.forall_mem_nil _⟩⟩⟩⟩⟩⟩⟩⟩⟩⟩⟩⟩⟩⟩⟩⟩⟩⟩⟩⟩⟩⟩⟩⟩⟩⟩⟩⟩⟩⟩⟩⟩

theorem canonX (x : Vec FI S256x4096 .fp8e4m3) (s : Vec FI S256x128 .i8) (h : ∀ y, 1 ≤ (s y).toNat ∧ (s y).toNat ≤ 254) :
    View.canon (pcsX (F := FI) x s) = allX x s := by
  funext y
  exact View.canon_apply_of_pieces (allX x s) _ (piecesX x s h) y (View.cover_of_tiledL (pcsX (F := FI) x s) S256x128.size (by sl_kernel_rfl) y)

theorem dqW_apply (j : Fin 32) (s : Vec FI S448x128 .i8) (codes : Vec FI S448x128 .fp8e4m3) (r : Fin 448) (l : Fin 128)
    (h : ∀ y, 1 ≤ (s y).toNat ∧ (s y).toNat ≤ 254) :
    dqW (F := FI) (BitVec.ofNat 32 (4 * j.val)) (k0_pay1 s) codes (ix2 r l) = codes (ix2 r l) * Spec.scl (s (ix2 r ⟨4 * j.val + l.val / 32, by omega⟩)) := by
  have e : ∀ hb, (⟨(idxW (BitVec.ofNat 32 (4 * j.val)) (ix2 r l)).toNat % 128, hb⟩ : Fin 128) = ⟨4 * j.val + l.val / 32, by omega⟩ :=
    fun _ => Fin.ext ((congrArg (fun b : BitVec 32 => b.toNat % 128) (idxW_row _ r l)).trans (idxW_val j l))
  pointwise [dqW, k0_pay1]
  rw [e, scale_word _ (h _).1 (h _).2]

/-- The array the stores of `pcsW` fill: the codes times their scales. -/
def allW (x : Vec FI S448x4096 .fp8e4m3) (s : Vec FI S448x128 .i8) : Vec FI S448x4096 .bf16 :=
  fun y => x (ix2 ⟨(y 0).val, (y 0).isLt⟩ ⟨(y 1).val, (y 1).isLt⟩) * Spec.scl (s (ix2 ⟨(y 0).val, (y 0).isLt⟩ ⟨(y 1).val / 32, Nat.div_lt_of_lt_mul (y 1).isLt⟩))

theorem pieceW (x : Vec FI S448x4096 .fp8e4m3) (s : Vec FI S448x128 .i8) (h : ∀ y, 1 ≤ (s y).toNat ∧ (s y).toNat ≤ 254)
    (j : Fin 32) (off : Fin 2 → ℕ) (hoff : off = ![0, 128 * j.val]) (hin : ∀ a, off a + S448x128.size a ≤ S448x4096.size a)
    (k : BitVec 32) (hk : k = BitVec.ofNat 32 (4 * j.val)) (hs0 : ∀ a, (![0, 0] : Fin 2 → ℕ) a + S448x128.size a ≤ S448x128.size a)
    (z : S448x128.Idx) :
    dqW (F := FI) k (k0_pay1 (View.ld (Val := Elt FI) (e' := .i8) s (Rect.unit ![0, 0] S448x128.size hs0)))
        (View.ld (Val := Elt FI) (e' := .fp8e4m3) x (Rect.unit off S448x128.size hin)) z
      = allW x s ((Rect.unit (s := S448x4096) off S448x128.size hin).emb z) := by
  subst hoff; subst hk
  obtain ⟨r, l, rfl⟩ : ∃ (r : Fin 448) (l : Fin 128), z = ix2 r l := ⟨z 0, z 1, by funext a; match a with | ⟨0, _⟩ => rfl | ⟨1, _⟩ => rfl⟩
  rw [View.ld_unit_zero (S := S448x128) (by funext a; match a with | ⟨0, _⟩ => rfl | ⟨1, _⟩ => rfl), dqW_apply j s _ r l h]
  pointwise []
  unfold allW
  congr 1
  · congr 1
    funext a; apply Fin.ext
    match a with
    | ⟨0, _⟩ => show _ = 0 + 1 * r.val; simp
    | ⟨1, _⟩ => show _ = 128 * j.val + 1 * l.val; simp
  · congr 2
    funext a; apply Fin.ext
    match a with
    | ⟨0, _⟩ => show r.val = 0 + 1 * r.val; omega
    | ⟨1, _⟩ => show 4 * j.val + l.val / 32 = (128 * j.val + 1 * l.val) / 32; omega

theorem piecesW (x : Vec FI S448x4096 .fp8e4m3) (s : Vec FI S448x128 .i8) (h : ∀ y, 1 ≤ (s y).toNat ∧ (s y).toNat ≤ 254) :
    ∀ p ∈ pcsW (F := FI) x s, ∀ z : p.1.shape.Idx, p.2 z = allW x s (p.1.emb z) := by
  unfold pcsW
  refine List.forall_mem_cons.2 ⟨pieceW x s h 31 _ rfl _ _ rfl _, List.forall_mem_cons.2 ⟨pieceW x s h 30 _ rfl _ _ rfl _, List.forall_mem_cons.2 ⟨pieceW x s h 29 _ rfl _ _ rfl _, List.forall_mem_cons.2 ⟨pieceW x s h 28 _ rfl _ _ rfl _, List.forall_mem_cons.2 ⟨pieceW x s h 27 _ rfl _ _ rfl _, List.forall_mem_cons.2 ⟨pieceW x s h 26 _ rfl _ _ rfl _, List.forall_mem_cons.2 ⟨pieceW x s h 25 _ rfl _ _ rfl _, List.forall_mem_cons.2 ⟨pieceW x s h 24 _ rfl _ _ rfl _, List.forall_mem_cons.2 ⟨pieceW x s h 23 _ rfl _ _ rfl _, List.forall_mem_cons.2 ⟨pieceW x s h 22 _ rfl _ _ rfl _, List.forall_mem_cons.2 ⟨pieceW x s h 21 _ rfl _ _ rfl _, List.forall_mem_cons.2 ⟨pieceW x s h 20 _ rfl _ _ rfl _, List.forall_mem_cons.2 ⟨pieceW x s h 19 _ rfl _ _ rfl _, List.forall_mem_cons.2 ⟨pieceW x s h 18 _ rfl _ _ rfl _, List.forall_mem_cons.2 ⟨pieceW x s h 17 _ rfl _ _ rfl _, List.forall_mem_cons.2 ⟨pieceW x s h 16 _ rfl _ _ rfl _, List.forall_mem_cons.2 ⟨pieceW x s h 15 _ rfl _ _ rfl _, List.forall_mem_cons.2 ⟨pieceW x s h 14 _ rfl _ _ rfl _, List.forall_mem_cons.2 ⟨pieceW x s h 13 _ rfl _ _ rfl _, List.forall_mem_cons.2 ⟨pieceW x s h 12 _ rfl _ _ rfl _, List.forall_mem_cons.2 ⟨pieceW x s h 11 _ rfl _ _ rfl _, List.forall_mem_cons.2 ⟨pieceW x s h 10 _ rfl _ _ rfl _, List.forall_mem_cons.2 ⟨pieceW x s h 9 _ rfl _ _ rfl _, List.forall_mem_cons.2 ⟨pieceW x s h 8 _ rfl _ _ rfl _, List.forall_mem_cons.2 ⟨pieceW x s h 7 _ rfl _ _ rfl _, List.forall_mem_cons.2 ⟨pieceW x s h 6 _ rfl _ _ rfl _, List.forall_mem_cons.2 ⟨pieceW x s h 5 _ rfl _ _ rfl _, List.forall_mem_cons.2 ⟨pieceW x s h 4 _ rfl _ _ rfl _, List.forall_mem_cons.2 ⟨pieceW x s h 3 _ rfl _ _ rfl _, List.forall_mem_cons.2 ⟨pieceW x s h 2 _ rfl _ _ rfl _, List.forall_mem_cons.2 ⟨pieceW x s h 1 _ rfl _ _ rfl _, List.forall_mem_cons.2 ⟨pieceW x s h 0 _ rfl _ _ rfl _, List.forall_mem_nil _⟩⟩⟩⟩⟩⟩⟩⟩⟩⟩⟩⟩⟩⟩⟩⟩⟩⟩⟩⟩⟩⟩⟩⟩⟩⟩⟩⟩⟩⟩⟩⟩

theorem canonW (x : Vec FI S448x4096 .fp8e4m3) (s : Vec FI S448x128 .i8) (h : ∀ y, 1 ≤ (s y).toNat ∧ (s y).toNat ≤ 254) :
    View.canon (pcsW (F := FI) x s) = allW x s := by
  funext y
  exact View.canon_apply_of_pieces (allW x s) _ (piecesW x s h) y (View.cover_of_tiledL (pcsW (F := FI) x s) S448x128.size (by sl_kernel_rfl) y)

/-- The gain spread over the lanes. -/
def allG (g : FVec FI S1x384 .f32) : FVec FI S384x128 .f32 := fun y => g (ix2 0 ⟨(y 0).val, (y 0).isLt⟩)

theorem pieceG (g : FVec FI S1x384 .f32) (m : ℕ) (off : Fin 2 → ℕ) (hoff : off = ![m, 0]) (hin : ∀ a, off a + S128x128.size a ≤ S384x128.size a)
    (off' : Fin 2 → ℕ) (hoff' : off' = ![0, m]) (hin' : ∀ a, off' a + S1x128.size a ≤ S1x384.size a) (z : S128x128.Idx) :
    k0_pay86 (F := FI) (View.ld (Val := Elt FI) (e' := .f32) g (Rect.unit off' S1x128.size hin')) z
      = allG g ((Rect.unit (s := S384x128) off S128x128.size hin).emb z) := by
  subst hoff; subst hoff'
  obtain ⟨r, l, rfl⟩ : ∃ (r : Fin 128) (l : Fin 128), z = ix2 r l := ⟨z 0, z 1, by funext a; match a with | ⟨0, _⟩ => rfl | ⟨1, _⟩ => rfl⟩
  pointwise [k0_pay86]
  unfold allG
  congr 1
  funext a; apply Fin.ext
  match a with
  | ⟨0, _⟩ => rfl
  | ⟨1, _⟩ => show _ = m + 1 * r.val; simp

theorem canonG (g : FVec FI S1x384 .f32) : View.canon (pcsG (F := FI) g) = allG g := by
  funext y
  refine View.canon_apply_of_pieces (allG g) _ ?_ y (View.cover_of_tiledL (pcsG (F := FI) g) S128x128.size (by sl_kernel_rfl) y)
  unfold pcsG
  exact List.forall_mem_cons.2 ⟨pieceG g 256 _ rfl inb_S384x128_S128x128_256_0 _ rfl inb_S1x384_S1x128_0_256, List.forall_mem_cons.2 ⟨pieceG g 128 _ rfl inb_S384x128_S128x128_128_0 _ rfl inb_S1x384_S1x128_0_128, List.forall_mem_cons.2 ⟨pieceG g 0 _ rfl inb_S384x128_S128x128_0_0 _ rfl inb_S1x384_S1x128_0_0, List.forall_mem_nil _⟩⟩⟩

end Cert.KernelIdeal.Hand
-- ==== Proof.KernelValue.Tiles.lean ====
/-
  What one point of the grid leaves in each output tile, over the extended reals, as functions of its rows.
-/
module

public import proofs.«01_k».proof.Proof.KernelValue.Rows
public import proofs.«01_k».proof.Proof.KernelValue.Scaled
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe

local notation "FI" => Idealize.ShloMosaic.Ideal

/-- The tile of the input gradient: the decoded row times the weights. -/
def out9 (w : FVec FI S448x4096 .bf16) (rf : Fin 256 → Fin 448 → EReal) : Vec FI S256x4096 .bf16 :=
  fun y => (∑ o, Spec.vS (rf ⟨(y 0).val, (y 0).isLt⟩) o * w (ix2 o ⟨(y 1).val, (y 1).isLt⟩) : EReal)

/-- The tile of the codes. -/
def out11 (rf : Fin 256 → Fin 448 → EReal) : Vec FI S256x448 .fp8e5m2 :=
  fun y => (Spec.qS (rf ⟨(y 0).val, (y 0).isLt⟩) ⟨(y 1).val, (y 1).isLt⟩ : EReal)

/-- The tile of the scales. -/
def out12 (rf : Fin 256 → Fin 448 → EReal) : Vec FI S256x14 .i8 :=
  fun y => Spec.sG (Spec.grp (rf ⟨(y 0).val, (y 0).isLt⟩) ⟨(y 1).val, (y 1).isLt⟩)

/-- One run's share of the gradient of the gain. -/
def dgRun (w : FVec FI S448x4096 .bf16) (x : FVec FI S256x4096 .bf16) (x6 : FVec FI S256x384 .bf16) (r : Fin 2) (o : Fin 384) : EReal :=
  ∑ l : Fin 128, Spec.dgS (cP w x ⟨128 * r.val + l.val, by omega⟩) (fun o => x6 (ix2 ⟨128 * r.val + l.val, by omega⟩ o)) o

theorem ld_all (W : FVec FI S448x4096 .bf16) :
    View.ld (Val := Elt FI) (e' := .bf16) W (Rect.unit ![0, 0] S448x4096.size inb_S448x4096_S448x4096_0_0) = W :=
  funext fun y => congrArg W (funext fun a => Fin.ext (show (![0, 0] : Fin 2 → ℕ) a + 1 * (y a).val = (y a).val by
    fin_cases a <;> exact (Nat.zero_add _).trans (Nat.one_mul _)))

section
variable (i : grid0.Coords) (w : FVec FI S448x4096 .bf16) (x : FVec FI S256x4096 .bf16) (gain : FVec FI S384x128 .f32)
    (x5 : Vec FI S2x896 .i32) (x6 : FVec FI S256x384 .bf16) (x7 : FVec FI S256x64 .bf16) (x8 : FVec FI S64x128 .f32)

theorem piece9_0 (z : S128x4096.Idx) :
    dxR (dcP0 w x gain x6) (dkP0 i x5 x7 x8) w z
      = out9 w (rowP w x gain x6 (posP i x5) x7 x8) ((Rect.unit (s := S256x4096) ![0, 0] S128x4096.size inb_S256x4096_S128x4096_0_0).emb z) := by
  obtain ⟨l, d, rfl⟩ : ∃ (l : Fin 128) (d : Fin 4096), z = ix2 l d := ⟨⟨(z 0).val, (z 0).isLt⟩, ⟨(z 1).val, (z 1).isLt⟩, by funext a; fin_cases a <;> rfl⟩
  rw [dxR_apply, rowT_0]
  unfold out9
  have e0 : (⟨(((Rect.unit (s := S256x4096) ![0, 0] S128x4096.size inb_S256x4096_S128x4096_0_0).emb (ix2 l d)) 0).val, (((Rect.unit (s := S256x4096) ![0, 0] S128x4096.size inb_S256x4096_S128x4096_0_0).emb (ix2 l d)) 0).isLt⟩ : Fin 256) = ⟨l.val, by omega⟩ :=
    Fin.ext (show 0 + 1 * l.val = l.val by omega)
  have e1 : (⟨(((Rect.unit (s := S256x4096) ![0, 0] S128x4096.size inb_S256x4096_S128x4096_0_0).emb (ix2 l d)) 1).val, (((Rect.unit (s := S256x4096) ![0, 0] S128x4096.size inb_S256x4096_S128x4096_0_0).emb (ix2 l d)) 1).isLt⟩ : Fin 4096) = d :=
    Fin.ext (show 0 + 1 * d.val = d.val by omega)
  rw [e0, e1]

theorem piece9_1 (z : S128x4096.Idx) :
    dxR (dcP1 w x gain x6) (dkP1 i x5 x7 x8) w z
      = out9 w (rowP w x gain x6 (posP i x5) x7 x8) ((Rect.unit (s := S256x4096) ![128, 0] S128x4096.size inb_S256x4096_S128x4096_128_0).emb z) := by
  obtain ⟨l, d, rfl⟩ : ∃ (l : Fin 128) (d : Fin 4096), z = ix2 l d := ⟨⟨(z 0).val, (z 0).isLt⟩, ⟨(z 1).val, (z 1).isLt⟩, by funext a; fin_cases a <;> rfl⟩
  rw [dxR_apply, rowT_1]
  unfold out9
  have e0 : (⟨(((Rect.unit (s := S256x4096) ![128, 0] S128x4096.size inb_S256x4096_S128x4096_128_0).emb (ix2 l d)) 0).val, (((Rect.unit (s := S256x4096) ![128, 0] S128x4096.size inb_S256x4096_S128x4096_128_0).emb (ix2 l d)) 0).isLt⟩ : Fin 256) = ⟨128 + l.val, by omega⟩ :=
    Fin.ext (show 128 + 1 * l.val = 128 + l.val by omega)
  have e1 : (⟨(((Rect.unit (s := S256x4096) ![128, 0] S128x4096.size inb_S256x4096_S128x4096_128_0).emb (ix2 l d)) 1).val, (((Rect.unit (s := S256x4096) ![128, 0] S128x4096.size inb_S256x4096_S128x4096_128_0).emb (ix2 l d)) 1).isLt⟩ : Fin 4096) = d :=
    Fin.ext (show 0 + 1 * d.val = d.val by omega)
  rw [e0, e1]

theorem piece11_0 (z : S128x448.Idx) :
    codesR (dcP0 w x gain x6) (dkP0 i x5 x7 x8) z
      = out11 (rowP w x gain x6 (posP i x5) x7 x8) ((Rect.unit (s := S256x448) ![0, 0] S128x448.size inb_S256x448_S128x448_0_0).emb z) := by
  obtain ⟨l, d, rfl⟩ : ∃ (l : Fin 128) (d : Fin 448), z = ix2 l d := ⟨⟨(z 0).val, (z 0).isLt⟩, ⟨(z 1).val, (z 1).isLt⟩, by funext a; fin_cases a <;> rfl⟩
  rw [codesR_apply, rowT_0]
  unfold out11
  have e0 : (⟨(((Rect.unit (s := S256x448) ![0, 0] S128x448.size inb_S256x448_S128x448_0_0).emb (ix2 l d)) 0).val, (((Rect.unit (s := S256x448) ![0, 0] S128x448.size inb_S256x448_S128x448_0_0).emb (ix2 l d)) 0).isLt⟩ : Fin 256) = ⟨l.val, by omega⟩ :=
    Fin.ext (show 0 + 1 * l.val = l.val by omega)
  have e1 : (⟨(((Rect.unit (s := S256x448) ![0, 0] S128x448.size inb_S256x448_S128x448_0_0).emb (ix2 l d)) 1).val, (((Rect.unit (s := S256x448) ![0, 0] S128x448.size inb_S256x448_S128x448_0_0).emb (ix2 l d)) 1).isLt⟩ : Fin 448) = d :=
    Fin.ext (show 0 + 1 * d.val = d.val by omega)
  rw [e0, e1]

theorem piece11_1 (z : S128x448.Idx) :
    codesR (dcP1 w x gain x6) (dkP1 i x5 x7 x8) z
      = out11 (rowP w x gain x6 (posP i x5) x7 x8) ((Rect.unit (s := S256x448) ![128, 0] S128x448.size inb_S256x448_S128x448_128_0).emb z) := by
  obtain ⟨l, d, rfl⟩ : ∃ (l : Fin 128) (d : Fin 448), z = ix2 l d := ⟨⟨(z 0).val, (z 0).isLt⟩, ⟨(z 1).val, (z 1).isLt⟩, by funext a; fin_cases a <;> rfl⟩
  rw [codesR_apply, rowT_1]
  unfold out11
  have e0 : (⟨(((Rect.unit (s := S256x448) ![128, 0] S128x448.size inb_S256x448_S128x448_128_0).emb (ix2 l d)) 0).val, (((Rect.unit (s := S256x448) ![128, 0] S128x448.size inb_S256x448_S128x448_128_0).emb (ix2 l d)) 0).isLt⟩ : Fin 256) = ⟨128 + l.val, by omega⟩ :=
    Fin.ext (show 128 + 1 * l.val = 128 + l.val by omega)
  have e1 : (⟨(((Rect.unit (s := S256x448) ![128, 0] S128x448.size inb_S256x448_S128x448_128_0).emb (ix2 l d)) 1).val, (((Rect.unit (s := S256x448) ![128, 0] S128x448.size inb_S256x448_S128x448_128_0).emb (ix2 l d)) 1).isLt⟩ : Fin 448) = d :=
    Fin.ext (show 0 + 1 * d.val = d.val by omega)
  rw [e0, e1]

theorem piece12_0 (z : S128x14.Idx) :
    scalesR (dcP0 w x gain x6) (dkP0 i x5 x7 x8) z
      = out12 (rowP w x gain x6 (posP i x5) x7 x8) ((Rect.unit (s := S256x14) ![0, 0] S128x14.size inb_S256x14_S128x14_0_0).emb z) := by
  obtain ⟨l, d, rfl⟩ : ∃ (l : Fin 128) (d : Fin 14), z = ix2 l d := ⟨⟨(z 0).val, (z 0).isLt⟩, ⟨(z 1).val, (z 1).isLt⟩, by funext a; fin_cases a <;> rfl⟩
  rw [scalesR_apply, rowT_0]
  unfold out12
  have e0 : (⟨(((Rect.unit (s := S256x14) ![0, 0] S128x14.size inb_S256x14_S128x14_0_0).emb (ix2 l d)) 0).val, (((Rect.unit (s := S256x14) ![0, 0] S128x14.size inb_S256x14_S128x14_0_0).emb (ix2 l d)) 0).isLt⟩ : Fin 256) = ⟨l.val, by omega⟩ :=
    Fin.ext (show 0 + 1 * l.val = l.val by omega)
  have e1 : (⟨(((Rect.unit (s := S256x14) ![0, 0] S128x14.size inb_S256x14_S128x14_0_0).emb (ix2 l d)) 1).val, (((Rect.unit (s := S256x14) ![0, 0] S128x14.size inb_S256x14_S128x14_0_0).emb (ix2 l d)) 1).isLt⟩ : Fin 14) = d :=
    Fin.ext (show 0 + 1 * d.val = d.val by omega)
  rw [e0, e1]

theorem piece12_1 (z : S128x14.Idx) :
    scalesR (dcP1 w x gain x6) (dkP1 i x5 x7 x8) z
      = out12 (rowP w x gain x6 (posP i x5) x7 x8) ((Rect.unit (s := S256x14) ![128, 0] S128x14.size inb_S256x14_S128x14_128_0).emb z) := by
  obtain ⟨l, d, rfl⟩ : ∃ (l : Fin 128) (d : Fin 14), z = ix2 l d := ⟨⟨(z 0).val, (z 0).isLt⟩, ⟨(z 1).val, (z 1).isLt⟩, by funext a; fin_cases a <;> rfl⟩
  rw [scalesR_apply, rowT_1]
  unfold out12
  have e0 : (⟨(((Rect.unit (s := S256x14) ![128, 0] S128x14.size inb_S256x14_S128x14_128_0).emb (ix2 l d)) 0).val, (((Rect.unit (s := S256x14) ![128, 0] S128x14.size inb_S256x14_S128x14_128_0).emb (ix2 l d)) 0).isLt⟩ : Fin 256) = ⟨128 + l.val, by omega⟩ :=
    Fin.ext (show 128 + 1 * l.val = 128 + l.val by omega)
  have e1 : (⟨(((Rect.unit (s := S256x14) ![128, 0] S128x14.size inb_S256x14_S128x14_128_0).emb (ix2 l d)) 1).val, (((Rect.unit (s := S256x14) ![128, 0] S128x14.size inb_S256x14_S128x14_128_0).emb (ix2 l d)) 1).isLt⟩ : Fin 14) = d :=
    Fin.ext (show 0 + 1 * d.val = d.val by omega)
  rw [e0, e1]

/-- The input gradient a body leaves, whatever the buffer held. -/
theorem read9 (a : Memref sig .tc .vmem S256x4096 .bf16) (f : a.view.ty.Contents (Elt FI)) :
    a.view.read (Elt FI) (a.view.writes (Elt FI) f (pcs9 (F := FI) w (dcP0 w x gain x6) (dcP1 w x gain x6) (dkP0 i x5 x7 x8) (dkP1 i x5 x7 x8)))
      = out9 w (rowP w x gain x6 (posP i x5) x7 x8) := by
  have hc := View.cover_of_tiledL (pcs9 (F := FI) w (dcP0 w x gain x6) (dcP1 w x gain x6) (dkP0 i x5 x7 x8) (dkP1 i x5 x7 x8)) S128x4096.size (by sl_kernel_rfl)
  rw [View.read_writes_eq_canon _ _ _ hc]
  funext y
  refine View.canon_apply_of_pieces _ _ ?_ y (hc y)
  unfold pcs9
  rw [ld_all]
  exact List.forall_mem_cons.2 ⟨piece9_1 i w x gain x5 x6 x7 x8, List.forall_mem_cons.2 ⟨piece9_0 i w x gain x5 x6 x7 x8, List.forall_mem_nil _⟩⟩

/-- The codes a body leaves, whatever the buffer held. -/
theorem read11 (a : Memref sig .tc .vmem S256x448 .fp8e5m2) (f : a.view.ty.Contents (Elt FI)) :
    a.view.read (Elt FI) (a.view.writes (Elt FI) f (pcs11 (F := FI) (dcP0 w x gain x6) (dcP1 w x gain x6) (dkP0 i x5 x7 x8) (dkP1 i x5 x7 x8)))
      = out11 (rowP w x gain x6 (posP i x5) x7 x8) := by
  have hc := View.cover_of_tiledL (pcs11 (F := FI) (dcP0 w x gain x6) (dcP1 w x gain x6) (dkP0 i x5 x7 x8) (dkP1 i x5 x7 x8)) S128x448.size (by sl_kernel_rfl)
  rw [View.read_writes_eq_canon _ _ _ hc]
  funext y
  refine View.canon_apply_of_pieces _ _ ?_ y (hc y)
  unfold pcs11
  exact List.forall_mem_cons.2 ⟨piece11_1 i w x gain x5 x6 x7 x8, List.forall_mem_cons.2 ⟨piece11_0 i w x gain x5 x6 x7 x8, List.forall_mem_nil _⟩⟩

/-- The scales a body leaves, whatever the buffer held. -/
theorem read12 (a : Memref sig .tc .vmem S256x14 .i8) (f : a.view.ty.Contents (Elt FI)) :
    a.view.read (Elt FI) (a.view.writes (Elt FI) f (pcs12 (F := FI) (dcP0 w x gain x6) (dcP1 w x gain x6) (dkP0 i x5 x7 x8) (dkP1 i x5 x7 x8)))
      = out12 (rowP w x gain x6 (posP i x5) x7 x8) := by
  have hc := View.cover_of_tiledL (pcs12 (F := FI) (dcP0 w x gain x6) (dcP1 w x gain x6) (dkP0 i x5 x7 x8) (dkP1 i x5 x7 x8)) S128x14.size (by sl_kernel_rfl)
  rw [View.read_writes_eq_canon _ _ _ hc]
  funext y
  refine View.canon_apply_of_pieces _ _ ?_ y (hc y)
  unfold pcs12
  exact List.forall_mem_cons.2 ⟨piece12_1 i w x gain x5 x6 x7 x8, List.forall_mem_cons.2 ⟨piece12_0 i w x gain x5 x6 x7 x8, List.forall_mem_nil _⟩⟩

theorem dgP_run0 (z : S1x1x384.Idx) : dgP0 w x x6 z = dgRun w x x6 0 ⟨(z 2).val, (z 2).isLt⟩ := by
  obtain ⟨o, rfl⟩ : ∃ o : Fin 384, z = ix3 0 0 o :=
    ⟨⟨(z 2).val, (z 2).isLt⟩, by funext a; fin_cases a <;> first | rfl | exact Subsingleton.elim (α := Fin 1) _ _⟩
  rw [dgP0_apply]
  unfold dgRun
  refine Finset.sum_congr rfl fun l _ => ?_
  have e : (⟨l.val, by omega⟩ : Fin 256) = ⟨128 * (0 : Fin 2).val + l.val, by show 128 * 0 + l.val < 256; omega⟩ :=
    Fin.ext (show l.val = 128 * 0 + l.val by omega)
  rw [e]; rfl

theorem dgP_run1 (z : S1x1x384.Idx) : dgP1 w x x6 z = dgRun w x x6 1 ⟨(z 2).val, (z 2).isLt⟩ := by
  obtain ⟨o, rfl⟩ : ∃ o : Fin 384, z = ix3 0 0 o :=
    ⟨⟨(z 2).val, (z 2).isLt⟩, by funext a; fin_cases a <;> first | rfl | exact Subsingleton.elim (α := Fin 1) _ _⟩
  rw [dgP1_apply]
  rfl

/-- What a point does to the gradient of the gain: it fills the two rows of its runs and leaves the others. -/
def Step10 (X0 X : Vec FI S2x7x384 .f32) : Prop :=
  (∀ (r : Fin 2) (y : S2x7x384.Idx), (y 0).val = (2 * (i 0).val + r.val) / 7 → (y 1).val = (2 * (i 0).val + r.val) % 7 →
      X y = dgRun w x x6 r ⟨(y 2).val, (y 2).isLt⟩) ∧
    ∀ y : S2x7x384.Idx, (∀ r : Fin 2, ¬((y 0).val = (2 * (i 0).val + r.val) / 7 ∧ (y 1).val = (2 * (i 0).val + r.val) % 7)) →
      X y = X0 y

theorem read10 (a : Memref sig .tc .vmem S2x7x384 .f32) (f : a.view.ty.Contents (Elt FI)) (X0 : Vec FI S2x7x384 .f32)
    (hf : a.view.read (Elt FI) f = X0) :
    Step10 i w x x6 X0 (a.view.read (Elt FI) (a.view.writes (Elt FI) f (pcs10 (F := FI) i (dgP0 w x x6) (dgP1 w x x6)))) := by
  have o0 : k0_off1 i 0#32 = ![(2 * (i 0).val + 0) / 7, (2 * (i 0).val + 0) % 7, 0] := off1_val i 0
  have o1 : k0_off1 i 1#32 = ![(2 * (i 0).val + 1) / 7, (2 * (i 0).val + 1) % 7, 0] := off1_val i 1
  unfold pcs10
  have hit : ∀ (n : ℕ) (y : S2x7x384.Idx), (y 0).val = n / 7 → (y 1).val = n % 7 →
      ∀ b : Fin 3, (y b).val = (![n / 7, n % 7, 0] : Fin 3 → ℕ) b + ((ix3 0 0 ⟨(y 2).val, (y 2).isLt⟩ : S1x1x384.Idx) b).val := by
    intro n y h0 h1 b
    fin_cases b
    · exact h0
    · exact h1
    · exact (Nat.zero_add _).symm
  have miss : ∀ (n : ℕ) (y : S2x7x384.Idx), ¬((y 0).val = n / 7 ∧ (y 1).val = n % 7) →
      ∃ b : Fin 3, (y b).val < (![n / 7, n % 7, 0] : Fin 3 → ℕ) b ∨ (![n / 7, n % 7, 0] : Fin 3 → ℕ) b + S1x1x384.size b ≤ (y b).val := by
    intro n y h
    by_cases h0 : (y 0).val = n / 7
    · have h1 : (y 1).val ≠ n % 7 := fun e => h ⟨h0, e⟩
      exact ⟨1, by show (y 1).val < n % 7 ∨ n % 7 + 1 ≤ (y 1).val; omega⟩
    · exact ⟨0, by show (y 0).val < n / 7 ∨ n / 7 + 1 ≤ (y 0).val; omega⟩
  refine ⟨fun r y h0 h1 => ?_, fun y h => ?_⟩
  · by_cases hr : r = 1
    · subst hr
      refine (View.read_writes_cons_unit_of_mem a.view f _ _ _ y _ o1 (hit _ y h0 h1)).trans ?_
      rw [dgP_run1]; rfl
    · obtain rfl : r = 0 := by omega
      have h0' : (y 0).val = (2 * (i 0).val + 0) / 7 := h0
      have h1' : (y 1).val = (2 * (i 0).val + 0) % 7 := h1
      obtain ⟨b, hb⟩ := miss (2 * (i 0).val + 1) y (by omega)
      refine (View.read_writes_cons_unit_of_not_mem a.view f _ _ _ y o1 b hb).trans ?_
      refine (View.read_writes_cons_unit_of_mem a.view f _ _ _ y _ o0 (hit _ y h0 h1)).trans ?_
      rw [dgP_run0]; rfl
  · obtain ⟨b, hb⟩ := miss (2 * (i 0).val + 1) y (h 1)
    obtain ⟨b', hb'⟩ := miss (2 * (i 0).val + 0) y (h 0)
    refine (View.read_writes_cons_unit_of_not_mem a.view f _ _ _ y o1 b hb).trans ?_
    refine (View.read_writes_cons_unit_of_not_mem a.view f _ _ _ y o0 b' hb').trans ?_
    exact congrFun hf y

end

end Cert.KernelIdeal.Hand
-- ==== Proof.KernelValue.RunA.lean ====
/-
  The body of `KernelIdeal` at a point where its branch is taken: what it stores.
-/
module

public import proofs.«01_k».proof.Proof.KernelIdealFrame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2644000 in
/-- What the body's stores leave in each buffer at a point where its branch is taken, as pieces (last first), with the
    proof that the body runs and leaves them; the results' buffer of window 10 keeps what it held outside its pieces. -/
noncomputable def valRun_A (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    Σ' (L9 : List (View.Piece (Elt F) S256x4096 .bf16)), Σ' (L10 : List (View.Piece (Elt F) S2x7x384 .f32)), Σ' (L11 : List (View.Piece (Elt F) S256x448 .fp8e5m2)), Σ' (L12 : List (View.Piece (Elt F) S256x14 .i8)), Σ' (LS0 : List (View.Piece (Elt F) S448x4096 .bf16)), Σ' (LS2 : List (View.Piece (Elt F) S384x128 .f32)), { LT1 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread x10) L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_mla_kv_bwd_eq_skeleton]; unfold cc0_mla_kv_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexact H10
    isplitl [H11]; · iexists _; iexact H11
    isplitl [H12]; · iexists _; iexact H12
    isplitl [HS0]; · iexists _; iexact HS0
    isplitl [HS1]; · iexists _; iexact HS1
    iexists _; iexact HS2

end Cert.KernelIdeal.Hand

end
-- ==== Proof.KernelValue.RunB.lean ====
/-
  The body of `KernelIdeal` at a point where its branch is not taken: what it stores.
-/
module

public import proofs.«01_k».proof.Proof.KernelIdealFrame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1740000 in
/-- What the body's stores leave in each buffer at a point where its branch is not taken, as pieces (last first), with the
    proof that the body runs and leaves them; the results' buffer of window 10 keeps what it held outside its pieces. -/
noncomputable def valRun_B (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    Σ' (L9 : List (View.Piece (Elt F) S256x4096 .bf16)), Σ' (L10 : List (View.Piece (Elt F) S2x7x384 .f32)), Σ' (L11 : List (View.Piece (Elt F) S256x448 .fp8e5m2)), Σ' (L12 : List (View.Piece (Elt F) S256x14 .i8)), Σ' (LS0 : List (View.Piece (Elt F) S448x4096 .bf16)), Σ' (LS2 : List (View.Piece (Elt F) S384x128 .f32)), { LT1 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread x10) L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xs0 ∗ (∃ f, arg15.view.loc (c : Thread nD τ) ↦[arg15.view.set]{fullShare} arg15.view.writes (Elt F) f LT1) ∗ owns (c : Thread nD τ) arg16 fullShare xs2) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, [], [], ?_, fun E K => ?run⟩
  case run =>
    simp only [cc0_mla_kv_bwd_eq_skeleton]; unfold cc0_mla_kv_bwd_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg14.eq_unread hfs0; obtain rfl := harg16.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexact H10
    isplitl [H11]; · iexists _; iexact H11
    isplitl [H12]; · iexists _; iexact H12
    isplitl [HS0]
    · iexists _; isplitr; · ipureintro; exact harg14.read_unread _
      iexact HS0
    isplitl [HS1]; · iexists _; iexact HS1
    iexists _; isplitr; · ipureintro; exact harg16.read_unread _
    iexact HS2

end Cert.KernelIdeal.Hand

end
-- ==== Proof.KernelValue.Pieces.lean ====
/-
  What the runs of the body were found to store, as the functions of `Body`.
-/
module

public import proofs.«01_k».proof.Proof.KernelValue.Body
public import proofs.«01_k».proof.Proof.KernelValue.RunA
public import proofs.«01_k».proof.Proof.KernelValue.RunB

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem pcs_A_9 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).1 =
      pcs9 (arg14.view.read (Elt F) (arg14.view.writes (Elt F) arg14.view.junk (pcsW x2 x3))) (dcP0 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dcP1 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dkP0 i x5 x7 x8) (dkP1 i x5 x7 x8) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).1 =
      pcs9 (arg14.view.read (Elt F) (arg14.view.writes (Elt F) arg14.view.junk (pcsW (arg3.view.read (Elt F) (harg3.unread x2)) (arg4.view.read (Elt F) (harg4.unread x3))))) (dcP0 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dcP1 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_A_11 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.1 =
      pcs11 (dcP0 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dcP1 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dkP0 i x5 x7 x8) (dkP1 i x5 x7 x8) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.1 =
      pcs11 (dcP0 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dcP1 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_A_12 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.1 =
      pcs12 (dcP0 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dcP1 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) (arg16.view.read (Elt F) (arg16.view.writes (Elt F) arg16.view.junk (pcsG x4))) x6) (dkP0 i x5 x7 x8) (dkP1 i x5 x7 x8) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.1 =
      pcs12 (dcP0 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dcP1 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (arg16.view.writes (Elt F) arg16.view.junk (pcsG (arg5.view.read (Elt F) (harg5.unread x4))))) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_A_10 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.1 =
      pcs10 i (dgP0 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) x6) (dgP1 (arg14.view.read (Elt F) (arg14.view.writes (Elt F) arg14.view.junk (pcsW x2 x3))) (View.ld (Val := Elt F) (e' := .bf16) (arg15.view.read (Elt F) (arg15.view.writes (Elt F) arg15.view.junk (pcsX x0 x1))) (Rect.unit ![0, 0] S256x4096.size inb_S256x4096_S256x4096_0_0)) x6) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.1 =
      pcs10 i (dgP0 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg7.view.read (Elt F) (harg7.unread x6))) (dgP1 (arg14.view.read (Elt F) (arg14.view.writes (Elt F) arg14.view.junk (pcsW (arg3.view.read (Elt F) (harg3.unread x2)) (arg4.view.read (Elt F) (harg4.unread x3))))) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg7.view.read (Elt F) (harg7.unread x6))) := rfl
  rw [h]; simp only [Memref.IsWhole.read_unread]

theorem pcs_A_T1 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.2.1 =
      (pcsX x0 x1) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.2.1 =
      (pcsX (arg1.view.read (Elt F) (harg1.unread x0)) (arg2.view.read (Elt F) (harg2.unread x1))) := rfl
  rw [h]; simp only [Memref.IsWhole.read_unread]

theorem pcs_A_S0 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.1 =
      (pcsW x2 x3) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.1 =
      (pcsW (arg3.view.read (Elt F) (harg3.unread x2)) (arg4.view.read (Elt F) (harg4.unread x3))) := rfl
  rw [h]; simp only [Memref.IsWhole.read_unread]

theorem pcs_A_S2 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) :
    (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.1 =
      (pcsG x4) := by
  have h : (valRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.1 =
      (pcsG (arg5.view.read (Elt F) (harg5.unread x4))) := rfl
  rw [h]; simp only [Memref.IsWhole.read_unread]

theorem pcs_B_9 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).1 =
      pcs9 xs0 (dcP0 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dcP1 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dkP0 i x5 x7 x8) (dkP1 i x5 x7 x8) := by
  have h : (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).1 =
      pcs9 (arg14.view.read (Elt F) (harg14.unread xs0)) (dcP0 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dcP1 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_B_11 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.1 =
      pcs11 (dcP0 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dcP1 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dkP0 i x5 x7 x8) (dkP1 i x5 x7 x8) := by
  have h : (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.1 =
      pcs11 (dcP0 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dcP1 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_B_12 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.1 =
      pcs12 (dcP0 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dcP1 xs0 (View.ld (Val := Elt F) (e' := .bf16) (arg15.view.read (Elt F) (arg15.view.writes (Elt F) arg15.view.junk (pcsX x0 x1))) (Rect.unit ![0, 0] S256x4096.size inb_S256x4096_S256x4096_0_0)) xs2 x6) (dkP0 i x5 x7 x8) (dkP1 i x5 x7 x8) := by
  have h : (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.1 =
      pcs12 (dcP0 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dcP1 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg16.view.read (Elt F) (harg16.unread xs2)) (arg7.view.read (Elt F) (harg7.unread x6))) (dkP0 i (arg6.view.read (Elt F) (harg6.unread x5)) (arg8.view.read (Elt F) (harg8.unread x7)) (arg9.view.read (Elt F) (harg9.unread x8))) (dkP1 i (arg6.view.read (Elt F) (harg6.unread x5)) (arg8.view.read (Elt F) (harg8.unread x7)) (arg9.view.read (Elt F) (harg9.unread x8))) := rfl
  rw [h]; simp only [Memref.IsWhole.read_unread]

theorem pcs_B_10 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.1 =
      pcs10 i (dgP0 xs0 (View.ld (Val := Elt F) (e' := .bf16) (arg15.view.read (Elt F) (arg15.view.writes (Elt F) arg15.view.junk (pcsX x0 x1))) (Rect.unit ![0, 0] S256x4096.size inb_S256x4096_S256x4096_0_0)) x6) (dgP1 xs0 (View.ld (Val := Elt F) (e' := .bf16) (arg15.view.read (Elt F) (arg15.view.writes (Elt F) arg15.view.junk (pcsX x0 x1))) (Rect.unit ![0, 0] S256x4096.size inb_S256x4096_S256x4096_0_0)) x6) := by
  have h : (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.1 =
      pcs10 i (dgP0 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg7.view.read (Elt F) (harg7.unread x6))) (dgP1 (arg14.view.read (Elt F) (harg14.unread xs0)) (View.ld (Val := Elt F) (e' := .bf16) (arg15.view.read (Elt F) (arg15.view.writes (Elt F) arg15.view.junk (pcsX (arg1.view.read (Elt F) (harg1.unread x0)) (arg2.view.read (Elt F) (harg2.unread x1))))) (Rect.unit ![0, 0] S256x4096.size inb_S256x4096_S256x4096_0_0)) (arg7.view.read (Elt F) (harg7.unread x6))) := rfl
  rw [h]; simp only [Memref.IsWhole.read_unread]

theorem pcs_B_T1 (c : Dev nD) (i : grid0.Coords) (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole) (hc0 : ¬cond0_0 i)
    (x0 : Vec F S256x4096 .fp8e4m3) (x1 : Vec F S256x128 .i8) (x2 : Vec F S448x4096 .fp8e4m3) (x3 : Vec F S448x128 .i8) (x4 : Vec F S1x384 .f32) (x5 : Vec F S2x896 .i32) (x6 : Vec F S256x384 .bf16) (x7 : Vec F S256x64 .bf16) (x8 : Vec F S64x128 .f32) (x10 : Vec F S2x7x384 .f32) (xs0 : Vec F S448x4096 .bf16) (xs2 : Vec F S384x128 .f32) :
    (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.2.2.2.1 =
      (pcsX x0 x1) := by
  have h : (valRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.2.2.2.1 =
      (pcsX (arg1.view.read (Elt F) (harg1.unread x0)) (arg2.view.read (Elt F) (harg2.unread x1))) := rfl
  rw [h]; simp only [Memref.IsWhole.read_unread]

end Cert.KernelIdeal.Hand
-- ==== Proof.KernelValue.Triple.lean ====
/-
  The body over the extended reals: what it takes and what it leaves, as functions of its tiles.
-/
module

public import proofs.«01_k».proof.Proof.KernelValue.Tiles
public import proofs.«01_k».proof.Proof.KernelValue.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "FI" => Idealize.ShloMosaic.Ideal
local notation "𝕄" => MT nD τ sig Unit (Elt FI) ℕ (UR sig nD τ) ℕ

theorem ldX_all (X : FVec FI S256x4096 .bf16) :
    View.ld (Val := Elt FI) (e' := .bf16) X (Rect.unit ![0, 0] S256x4096.size inb_S256x4096_S256x4096_0_0) = X :=
  funext fun y => congrArg X (funext fun a => Fin.ext (show (![0, 0] : Fin 2 → ℕ) a + 1 * (y a).val = (y a).val by
    fin_cases a <;> exact (Nat.zero_add _).trans (Nat.one_mul _)))

theorem scratchX (a : Memref sig .tc .vmem S256x4096 .bf16) (x0 : Vec FI S256x4096 .fp8e4m3) (x1 : Vec FI S256x128 .i8)
    (h : ∀ y, 1 ≤ (x1 y).toNat ∧ (x1 y).toNat ≤ 254) :
    View.ld (Val := Elt FI) (e' := .bf16) (a.view.read (Elt FI) (a.view.writes (Elt FI) a.view.junk (pcsX (F := FI) x0 x1)))
      (Rect.unit ![0, 0] S256x4096.size inb_S256x4096_S256x4096_0_0) = allX x0 x1 := by
  rw [ldX_all, View.read_writes_junk_eq_canon, canonX x0 x1 h]

theorem scratchW (a : Memref sig .tc .vmem S448x4096 .bf16) (x2 : Vec FI S448x4096 .fp8e4m3) (x3 : Vec FI S448x128 .i8)
    (h : ∀ y, 1 ≤ (x3 y).toNat ∧ (x3 y).toNat ≤ 254) (f : a.view.ty.Contents (Elt FI)) :
    a.view.read (Elt FI) (a.view.writes (Elt FI) f (pcsW (F := FI) x2 x3)) = allW x2 x3 := by
  rw [View.read_writes_eq_canon _ _ _ (View.cover_of_tiledL (pcsW (F := FI) x2 x3) S448x128.size (by sl_kernel_rfl)), canonW x2 x3 h]

theorem scratchG (a : Memref sig .tc .vmem S384x128 .f32) (x4 : FVec FI S1x384 .f32) (f : a.view.ty.Contents (Elt FI)) :
    a.view.read (Elt FI) (a.view.writes (Elt FI) f (pcsG (F := FI) x4)) = allG x4 := by
  rw [View.read_writes_eq_canon _ _ _ (View.cover_of_tiledL (pcsG (F := FI) x4) S128x128.size (by sl_kernel_rfl)), canonG x4]

/-- The rows of a tile, from the blocks and the decoded weights and gain. -/
def rowV (i : grid0.Coords) (W : FVec FI S448x4096 .bf16) (G : FVec FI S384x128 .f32) (x0 : Vec FI S256x4096 .fp8e4m3)
    (x1 : Vec FI S256x128 .i8) (x5 : Vec FI S2x896 .i32) (x6 : FVec FI S256x384 .bf16) (x7 : FVec FI S256x64 .bf16)
    (x8 : FVec FI S64x128 .f32) : Fin 256 → Fin 448 → EReal :=
  rowP W (allX x0 x1) G x6 (posP i x5) x7 x8

section
variable (c : Dev nD) (i : grid0.Coords)
  (arg1 : Memref sig .tc .vmem S256x4096 .fp8e4m3) (harg1 : arg1.IsWhole) (arg2 : Memref sig .tc .vmem S256x128 .i8) (harg2 : arg2.IsWhole) (arg3 : Memref sig .tc .vmem S448x4096 .fp8e4m3) (harg3 : arg3.IsWhole) (arg4 : Memref sig .tc .vmem S448x128 .i8) (harg4 : arg4.IsWhole) (arg5 : Memref sig .tc .vmem S1x384 .f32) (harg5 : arg5.IsWhole) (arg6 : Memref sig .tc .vmem S2x896 .i32) (harg6 : arg6.IsWhole) (arg7 : Memref sig .tc .vmem S256x384 .bf16) (harg7 : arg7.IsWhole) (arg8 : Memref sig .tc .vmem S256x64 .bf16) (harg8 : arg8.IsWhole) (arg9 : Memref sig .tc .vmem S64x128 .f32) (harg9 : arg9.IsWhole) (arg10 : Memref sig .tc .vmem S256x4096 .bf16) (harg10 : arg10.IsWhole) (arg11 : Memref sig .tc .vmem S2x7x384 .f32) (harg11 : arg11.IsWhole) (arg12 : Memref sig .tc .vmem S256x448 .fp8e5m2) (harg12 : arg12.IsWhole) (arg13 : Memref sig .tc .vmem S256x14 .i8) (harg13 : arg13.IsWhole) (arg14 : Memref sig .tc .vmem S448x4096 .bf16) (harg14 : arg14.IsWhole) (arg15 : Memref sig .tc .vmem S256x4096 .bf16) (harg15 : arg15.IsWhole) (arg16 : Memref sig .tc .vmem S384x128 .f32) (harg16 : arg16.IsWhole)
  (x0 : Vec FI S256x4096 .fp8e4m3) (x1 : Vec FI S256x128 .i8) (x2 : Vec FI S448x4096 .fp8e4m3) (x3 : Vec FI S448x128 .i8) (x4 : Vec FI S1x384 .f32) (x5 : Vec FI S2x896 .i32) (x6 : Vec FI S256x384 .bf16) (x7 : Vec FI S256x64 .bf16) (x8 : Vec FI S64x128 .f32) (x10 : Vec FI S2x7x384 .f32)
  (xs0 : Vec FI S448x4096 .bf16) (xs2 : Vec FI S384x128 .f32)

theorem valA_9 (hc0 : cond0_0 i) (h1 : ∀ y, 1 ≤ (x1 y).toNat ∧ (x1 y).toNat ≤ 254) (h3 : ∀ y, 1 ≤ (x3 y).toNat ∧ (x3 y).toNat ≤ 254) (f : arg10.view.ty.Contents (Elt FI)) :
    arg10.view.read (Elt FI) (arg10.view.writes (Elt FI) f (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).1) = out9 (allW x2 x3) (rowV i (allW x2 x3) (allG x4) x0 x1 x5 x6 x7 x8) := by
  rw [pcs_A_9 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10, scratchX _ _ _ h1, scratchW _ _ _ h3, scratchG]
  exact read9 i (allW x2 x3) (allX x0 x1) (allG x4) x5 x6 x7 x8 arg10 f

theorem valA_11 (hc0 : cond0_0 i) (h1 : ∀ y, 1 ≤ (x1 y).toNat ∧ (x1 y).toNat ≤ 254) (h3 : ∀ y, 1 ≤ (x3 y).toNat ∧ (x3 y).toNat ≤ 254) (f : arg12.view.ty.Contents (Elt FI)) :
    arg12.view.read (Elt FI) (arg12.view.writes (Elt FI) f (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.1) = out11 (rowV i (allW x2 x3) (allG x4) x0 x1 x5 x6 x7 x8) := by
  rw [pcs_A_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10, scratchX _ _ _ h1, scratchW _ _ _ h3, scratchG]
  exact read11 i (allW x2 x3) (allX x0 x1) (allG x4) x5 x6 x7 x8 arg12 f

theorem valA_12 (hc0 : cond0_0 i) (h1 : ∀ y, 1 ≤ (x1 y).toNat ∧ (x1 y).toNat ≤ 254) (h3 : ∀ y, 1 ≤ (x3 y).toNat ∧ (x3 y).toNat ≤ 254) (f : arg13.view.ty.Contents (Elt FI)) :
    arg13.view.read (Elt FI) (arg13.view.writes (Elt FI) f (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.1) = out12 (rowV i (allW x2 x3) (allG x4) x0 x1 x5 x6 x7 x8) := by
  rw [pcs_A_12 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10, scratchX _ _ _ h1, scratchW _ _ _ h3, scratchG]
  exact read12 i (allW x2 x3) (allX x0 x1) (allG x4) x5 x6 x7 x8 arg13 f

theorem valA_10 (hc0 : cond0_0 i) (h1 : ∀ y, 1 ≤ (x1 y).toNat ∧ (x1 y).toNat ≤ 254) (h3 : ∀ y, 1 ≤ (x3 y).toNat ∧ (x3 y).toNat ≤ 254) :
    Step10 i (allW x2 x3) (allX x0 x1) x6 x10 (arg11.view.read (Elt FI) (arg11.view.writes (Elt FI) (harg11.unread x10) (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.1)) := by
  rw [pcs_A_10 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10, scratchX _ _ _ h1, scratchW _ _ _ h3]
  exact read10 i (allW x2 x3) (allX x0 x1) x6 arg11 _ x10 (harg11.read_unread x10)

theorem valB_9 (hc0 : ¬cond0_0 i) (h1 : ∀ y, 1 ≤ (x1 y).toNat ∧ (x1 y).toNat ≤ 254) (f : arg10.view.ty.Contents (Elt FI)) :
    arg10.view.read (Elt FI) (arg10.view.writes (Elt FI) f (valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).1) = out9 xs0 (rowV i xs0 xs2 x0 x1 x5 x6 x7 x8) := by
  rw [pcs_B_9 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2, scratchX _ _ _ h1]
  exact read9 i xs0 (allX x0 x1) xs2 x5 x6 x7 x8 arg10 f

theorem valB_11 (hc0 : ¬cond0_0 i) (h1 : ∀ y, 1 ≤ (x1 y).toNat ∧ (x1 y).toNat ≤ 254) (f : arg12.view.ty.Contents (Elt FI)) :
    arg12.view.read (Elt FI) (arg12.view.writes (Elt FI) f (valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.1) = out11 (rowV i xs0 xs2 x0 x1 x5 x6 x7 x8) := by
  rw [pcs_B_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2, scratchX _ _ _ h1]
  exact read11 i xs0 (allX x0 x1) xs2 x5 x6 x7 x8 arg12 f

theorem valB_12 (hc0 : ¬cond0_0 i) (h1 : ∀ y, 1 ≤ (x1 y).toNat ∧ (x1 y).toNat ≤ 254) (f : arg13.view.ty.Contents (Elt FI)) :
    arg13.view.read (Elt FI) (arg13.view.writes (Elt FI) f (valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.1) = out12 (rowV i xs0 xs2 x0 x1 x5 x6 x7 x8) := by
  rw [pcs_B_12 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2, scratchX _ _ _ h1]
  exact read12 i xs0 (allX x0 x1) xs2 x5 x6 x7 x8 arg13 f

theorem valB_10 (hc0 : ¬cond0_0 i) (h1 : ∀ y, 1 ≤ (x1 y).toNat ∧ (x1 y).toNat ≤ 254) :
    Step10 i xs0 (allX x0 x1) x6 x10 (arg11.view.read (Elt FI) (arg11.view.writes (Elt FI) (harg11.unread x10) (valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.1)) := by
  rw [pcs_B_10 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2, scratchX _ _ _ h1]
  exact read10 i xs0 (allX x0 x1) x6 arg11 _ x10 (harg11.read_unread x10)

theorem valA_S0 (hc0 : cond0_0 i)  (h3 : ∀ y, 1 ≤ (x3 y).toNat ∧ (x3 y).toNat ≤ 254) (f : arg14.view.ty.Contents (Elt FI)) :
    arg14.view.read (Elt FI) (arg14.view.writes (Elt FI) f (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.1) = allW x2 x3 := by
  rw [pcs_A_S0 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10]
  exact scratchW _ _ _ h3 f

theorem valA_S2 (hc0 : cond0_0 i) (f : arg16.view.ty.Contents (Elt FI)) :
    arg16.view.read (Elt FI) (arg16.view.writes (Elt FI) f (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.1) = allG x4 := by
  rw [pcs_A_S2 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10]
  exact scratchG _ _ f

/-- The body at a point where its branch is taken. -/
theorem tripleA (hc0 : cond0_0 i) (h1 : ∀ y, 1 ≤ (x1 y).toNat ∧ (x1 y).toNat ≤ 254) (h3 : ∀ y, 1 ≤ (x3 y).toNat ∧ (x3 y).toNat ≤ 254) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 (allW x2 x3) (rowV i (allW x2 x3) (allG x4) x0 x1 x5 x6 x7 x8)) ∗ (∃ X, ⌜Step10 i (allW x2 x3) (allX x0 x1) x6 x10 X⌝ ∗ owns (c : Thread nD τ) arg11 fullShare X) ∗ owns (c : Thread nD τ) arg12 fullShare (out11 (rowV i (allW x2 x3) (allG x4) x0 x1 x5 x6 x7 x8)) ∗ owns (c : Thread nD τ) arg13 fullShare (out12 (rowV i (allW x2 x3) (allG x4) x0 x1 x5 x6 x7 x8)) ∗ owns (c : Thread nD τ) arg14 fullShare (allW x2 x3) ∗ (∃ d, owns (c : Thread nD τ) arg15 fullShare d) ∗ owns (c : Thread nD τ) arg16 fullShare (allG x4)) -∗ K ⟨⟩))
      ⊢ wp frame (wpE (defs₀ (F := FI)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, HS0, HS1, HS2, Hk⟩
  iapply ((valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, ⟨%f9, H9⟩, H10, ⟨%f11, H11⟩, ⟨%f12, H12⟩, ⟨%g0, HS0⟩, ⟨%g1, HS1⟩, ⟨%g2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; · ipureintro; exact valA_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 h1 h3 f9
    iexact H9
  isplitl [H10]
  · iexists _; isplitr; · ipureintro; exact valA_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 h1 h3
    unfold owns; iexists _; isplitr; · ipureintro; rfl
    iexact H10
  isplitl [H11]
  · unfold owns; iexists _; isplitr; · ipureintro; exact valA_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 h1 h3 f11
    iexact H11
  isplitl [H12]
  · unfold owns; iexists _; isplitr; · ipureintro; exact valA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 h1 h3 f12
    iexact H12
  isplitl [HS0]
  · unfold owns; iexists _; isplitr; · ipureintro; exact valA_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 h3 g0
    iexact HS0
  isplitl [HS1]
  · unfold owns; iexists _; iexists (arg15.view.writes (Elt FI) g1 (valRun_A (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10).2.2.2.2.2.2.1); isplitr; · ipureintro; rfl
    iexact HS1
  unfold owns; iexists _; isplitr; · ipureintro; exact valA_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 hc0 g2
  iexact HS2

/-- The body at a point where its branch is not taken. -/
theorem tripleB (hc0 : ¬cond0_0 i) (h1 : ∀ y, 1 ≤ (x1 y).toNat ∧ (x1 y).toNat ≤ 254) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 xs0 (rowV i xs0 xs2 x0 x1 x5 x6 x7 x8)) ∗ (∃ X, ⌜Step10 i xs0 (allX x0 x1) x6 x10 X⌝ ∗ owns (c : Thread nD τ) arg11 fullShare X) ∗ owns (c : Thread nD τ) arg12 fullShare (out11 (rowV i xs0 xs2 x0 x1 x5 x6 x7 x8)) ∗ owns (c : Thread nD τ) arg13 fullShare (out12 (rowV i xs0 xs2 x0 x1 x5 x6 x7 x8)) ∗ owns (c : Thread nD τ) arg14 fullShare xs0 ∗ (∃ d, owns (c : Thread nD τ) arg15 fullShare d) ∗ owns (c : Thread nD τ) arg16 fullShare xs2) -∗ K ⟨⟩))
      ⊢ wp frame (wpE (defs₀ (F := FI)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, HS0, HS1, HS2, Hk⟩
  iapply ((valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, ⟨%f9, H9⟩, H10, ⟨%f11, H11⟩, ⟨%f12, H12⟩, HS0, ⟨%g1, HS1⟩, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; · ipureintro; exact valB_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 xs0 xs2 hc0 h1 f9
    iexact H9
  isplitl [H10]
  · iexists _; isplitr; · ipureintro; exact valB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 xs0 xs2 hc0 h1
    unfold owns; iexists _; isplitr; · ipureintro; rfl
    iexact H10
  isplitl [H11]
  · unfold owns; iexists _; isplitr; · ipureintro; exact valB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 xs0 xs2 hc0 h1 f11
    iexact H11
  isplitl [H12]
  · unfold owns; iexists _; isplitr; · ipureintro; exact valB_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x10 xs0 xs2 hc0 h1 f12
    iexact H12
  isplitl [HS0]; · iexact HS0
  isplitl [HS1]
  · unfold owns; iexists _; iexists (arg15.view.writes (Elt FI) g1 (valRun_B (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x10 xs0 xs2).2.2.2.2.2.2.1); isplitr; · ipureintro; rfl
    iexact HS1
  iexact HS2

end

end Cert.KernelIdeal.Hand
-- ==== Proof.Math.lean ====
/-
  What both programs compute, over the whole arrays, token by token.
-/
module

public import proofs.«01_k».proof.Proof.Spec
public import Idealize.ShloMosaic.Lib.Pipeline.Value

@[expose] public section

noncomputable section

namespace Cert.Spec

open Idealize.ShloMosaic Idealize.ShloMosaic.TcCoe

local notation "FI" => Idealize.ShloMosaic.Ideal

/-- An array of two sequences read as one list of tokens. -/
theorem flat3 {α : Type} {K : ℕ} (X : (⟨3, ![2, 896, K]⟩ : Shape).Idx → α) (h : (⟨3, ![2, 896, K]⟩ : Shape).ShapeCasts ⟨2, ![1792, K]⟩)
    (n : Fin 1792) (k : Fin K) :
    shapeCast ⟨2, ![1792, K]⟩ X h (ix2 n k) = X (ix3 ⟨n.val / 896, by omega⟩ ⟨n.val % 896, by omega⟩ k) :=
  shapeCast_apply _ _ _ _ (by
    rw [Shape.rowMajor_val_three, Shape.rowMajor_val_two]
    show (n.val / 896 * 896 + n.val % 896) * K + k.val = n.val * K + k.val
    rw [Nat.div_add_mod'])

section
variable (x : Vec FI ⟨3, ![2, 896, 4096]⟩ .fp8e4m3) (xs : Vec FI ⟨3, ![2, 896, 128]⟩ .i8)
    (w : Vec FI ⟨2, ![448, 4096]⟩ .fp8e4m3) (ws : Vec FI ⟨2, ![448, 128]⟩ .i8) (g : Vec FI ⟨1, ![384]⟩ .f32)
    (pos : Vec FI ⟨2, ![2, 896]⟩ .i32) (dc : Vec FI ⟨3, ![2, 896, 384]⟩ .bf16) (dk : Vec FI ⟨3, ![2, 896, 64]⟩ .bf16)
    (f : Fin 64 → EReal)

/-- A decoded weight. -/
def wN (o : Fin 448) (k : Fin 4096) : EReal := w (ix2 o k) * scl (ws (ix2 o ⟨k.val / 32, by omega⟩))

/-- A decoded input. -/
def xN (n : Fin 1792) (k : Fin 4096) : EReal :=
  x (ix3 ⟨n.val / 896, by omega⟩ ⟨n.val % 896, by omega⟩ k)
    * scl (xs (ix3 ⟨n.val / 896, by omega⟩ ⟨n.val % 896, by omega⟩ ⟨k.val / 32, by omega⟩))

/-- The latent of a token. -/
def cN (n : Fin 1792) (o : Fin 384) : EReal := ∑ k : Fin 4096, wN w ws ⟨o.val, by omega⟩ k * xN x xs n k

/-- The incoming gradient of the latent. -/
def dcN (n : Fin 1792) (o : Fin 384) : EReal := dc (ix3 ⟨n.val / 896, by omega⟩ ⟨n.val % 896, by omega⟩ o)

/-- The row of the down projection's gradient that is quantised. -/
def rowN (n : Fin 1792) : Fin 448 → EReal :=
  rowG (dcS (cN x xs w ws n) (dcN dc n) (fun o => g (ix1 o)))
    (dkS (FloatOps.sitofp (F := FI) .f32 (pos (ix2 ⟨n.val / 896, by omega⟩ ⟨n.val % 896, by omega⟩)))
      (fun j => dk (ix3 ⟨n.val / 896, by omega⟩ ⟨n.val % 896, by omega⟩ j)) f)

/-- The gradient of the input. -/
def dxN : Vec FI ⟨2, ![1792, 4096]⟩ .bf16 := fun y =>
  (∑ o, vS (rowN x xs w ws g pos dc dk f ⟨(y 0).val, (y 0).isLt⟩) o * wN w ws o ⟨(y 1).val, (y 1).isLt⟩ : EReal)

/-- The codes of the down projection's gradient. -/
def codesN : Vec FI ⟨2, ![1792, 448]⟩ .fp8e5m2 := fun y =>
  (qS (rowN x xs w ws g pos dc dk f ⟨(y 0).val, (y 0).isLt⟩) ⟨(y 1).val, (y 1).isLt⟩ : EReal)

/-- The scales of those codes. -/
def scalesN : Vec FI ⟨2, ![1792, 14]⟩ .i8 := fun y =>
  sG (grp (rowN x xs w ws g pos dc dk f ⟨(y 0).val, (y 0).isLt⟩) ⟨(y 1).val, (y 1).isLt⟩)

/-- A run's share of the gradient of the gain. -/
def dgN (q : ℕ) (hq : q < 14) (o : Fin 384) : EReal :=
  ∑ l : Fin 128, dgS (cN x xs w ws ⟨128 * q + l.val, by omega⟩) (dcN dc ⟨128 * q + l.val, by omega⟩) o

/-- The gradient of the gain, one row for each run of 128 tokens. -/
def dgainN : Vec FI ⟨3, ![2, 7, 384]⟩ .f32 := fun y =>
  dgN x xs w ws dc (7 * (y 0).val + (y 1).val)
    (by have h0 : (y 0).val < 2 := (y 0).isLt; have h1 : (y 1).val < 7 := (y 1).isLt; omega) ⟨(y 2).val, (y 2).isLt⟩

end

end Cert.Spec
-- ==== Proof.KernelValue.Blocks.lean ====
/-
  What each window's block holds, read off the arguments.
-/
module

public import proofs.«01_k».proof.Proof.KernelIdealFrame.Runs
public import proofs.«01_k».proof.Proof.KernelValue.Triple
public import proofs.«01_k».proof.Proof.Math
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

local notation "FI" => Idealize.ShloMosaic.Ideal

variable (m : (ℓ : Loc nD τ sig) → Buf (Elt FI) ℓ) (c : Dev nD)

theorem coord0 : ∀ t : Fin cfg0.N, (grid0.coords t 0).val = t.val := (by decide +kernel : ∀ t : Fin grid0.N, _)

theorem lt7 (t : Fin cfg0.N) : t.val < 7 := lt_of_lt_of_eq t.isLt (show cfg0.N = 7 from N_0)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)

theorem V_v1 (n : Fin 1792) (k : Fin 4096) : (V m c main_v1 : Vec FI S1792x4096 .fp8e4m3) (ix2 n k)
    = (m ((c : Thread nD τ).loc main_arg0) : Vec FI S2x896x4096 .fp8e4m3) (ix3 ⟨n.val / 896, by omega⟩ ⟨n.val % 896, by omega⟩ k) := by
  have h : (V m c main_v1 : Vec FI S1792x4096 .fp8e4m3) = shapeCast S1792x4096 (m ((c : Thread nD τ).loc main_arg0) : Vec FI S2x896x4096 .fp8e4m3) shapeCasts_S2x896x4096_S1792x4096 := by
    show StableHlo.after hostOps0 _ (Proc.devRef .tc main_v1) = _
    after_results
    try rfl
  rw [h]
  exact Spec.flat3 _ _ n k

theorem V_v2 (n : Fin 1792) (k : Fin 128) : (V m c main_v2 : Vec FI S1792x128 .i8) (ix2 n k)
    = (m ((c : Thread nD τ).loc main_arg1) : Vec FI S2x896x128 .i8) (ix3 ⟨n.val / 896, by omega⟩ ⟨n.val % 896, by omega⟩ k) := by
  have h : (V m c main_v2 : Vec FI S1792x128 .i8) = shapeCast S1792x128 (m ((c : Thread nD τ).loc main_arg1) : Vec FI S2x896x128 .i8) shapeCasts_S2x896x128_S1792x128 := by
    show StableHlo.after hostOps0 _ (Proc.devRef .tc main_v2) = _
    after_results
    try rfl
  rw [h]
  exact Spec.flat3 _ _ n k

theorem V_v4 (n : Fin 1792) (k : Fin 384) : (V m c main_v4 : Vec FI S1792x384 .bf16) (ix2 n k)
    = (m ((c : Thread nD τ).loc main_arg6) : Vec FI S2x896x384 .bf16) (ix3 ⟨n.val / 896, by omega⟩ ⟨n.val % 896, by omega⟩ k) := by
  have h : (V m c main_v4 : Vec FI S1792x384 .bf16) = shapeCast S1792x384 (m ((c : Thread nD τ).loc main_arg6) : Vec FI S2x896x384 .bf16) shapeCasts_S2x896x384_S1792x384 := by
    show StableHlo.after hostOps0 _ (Proc.devRef .tc main_v4) = _
    after_results
    try rfl
  rw [h]
  exact Spec.flat3 _ _ n k

theorem V_v5 (n : Fin 1792) (k : Fin 64) : (V m c main_v5 : Vec FI S1792x64 .bf16) (ix2 n k)
    = (m ((c : Thread nD τ).loc main_arg7) : Vec FI S2x896x64 .bf16) (ix3 ⟨n.val / 896, by omega⟩ ⟨n.val % 896, by omega⟩ k) := by
  have h : (V m c main_v5 : Vec FI S1792x64 .bf16) = shapeCast S1792x64 (m ((c : Thread nD τ).loc main_arg7) : Vec FI S2x896x64 .bf16) shapeCasts_S2x896x64_S1792x64 := by
    show StableHlo.after hostOps0 _ (Proc.devRef .tc main_v5) = _
    after_results
    try rfl
  rw [h]
  exact Spec.flat3 _ _ n k

theorem V_v3 (o : Fin 384) : (V m c main_v3 : Vec FI S1x384 .f32) (ix2 0 o)
    = (m ((c : Thread nD τ).loc main_arg4) : Vec FI S384 .f32) (ix1 o) := by
  have h : (V m c main_v3 : Vec FI S1x384 .f32) = shapeCast S1x384 (m ((c : Thread nD τ).loc main_arg4) : Vec FI S384 .f32) shapeCasts_S384_S1x384 := by
    show StableHlo.after hostOps0 _ (Proc.devRef .tc main_v3) = _
    after_results
    try rfl
  rw [h]
  exact shapeCast_apply (s := S384) (t := S1x384) _ _ _ _ (by
    rw [Shape.rowMajor_val_one, Shape.rowMajor_val_two]
    show o.val = 0 * 384 + o.val; omega)

/-- The inverse frequencies. -/
def freq (j : Fin 64) : EReal := FloatOps.ofBits (F := FI) .f32 (lit0 j)

theorem V_v0 (j : Fin 64) (l : Fin 128) : (V m c main_v0 : Vec FI S64x128 .f32) (ix2 j l) = freq j := by
  have h : (V m c main_v0 : Vec FI S64x128 .f32)
      = broadcastInDim S64x128 ![0] bcast_S64_S64x128_0 fun i : S64.Idx => FloatOps.ofBits (F := FI) .f32 (lit0 (S64.rowMajor i)) := by
    show StableHlo.after hostOps0 _ (Proc.devRef .tc main_v0) = _
    after_results
    try rfl
  rw [h]
  show FloatOps.ofBits (F := FI) .f32 (lit0 (S64.rowMajor _)) = FloatOps.ofBits (F := FI) .f32 (lit0 j)
  refine congrArg _ (congrArg lit0 (Fin.ext ?_))
  refine (Shape.rowMajor_val_one _).trans ?_
  rfl

theorem blk0_V (t : Fin cfg0.N) (r : Fin 256) (k : Fin 4096) : (iblk m c 0 t : Vec FI S256x4096 .fp8e4m3) (ix2 r k)
    = (V m c main_v1 : Vec FI S1792x4096 .fp8e4m3) (ix2 ⟨256 * t.val + r.val, by have := lt7 t; omega⟩ k) := by
  have hi := index0 t
  unfold iblk
  rw [View.read_apply]
  show (V m c main_v1 : Vec FI S1792x4096 .fp8e4m3) _ = _
  refine congrArg _ (funext fun a => Fin.ext ?_)
  match a with
  | ⟨0, _⟩ => show win0_0.index t 0 * 256 + 1 * r.val = 256 * t.val + r.val; rw [hi.1]; omega
  | ⟨1, _⟩ => show win0_0.index t 1 * 4096 + 1 * k.val = k.val; rw [hi.2]; omega

theorem blk1_V (t : Fin cfg0.N) (r : Fin 256) (k : Fin 128) : (iblk m c 1 t : Vec FI S256x128 .i8) (ix2 r k)
    = (V m c main_v2 : Vec FI S1792x128 .i8) (ix2 ⟨256 * t.val + r.val, by have := lt7 t; omega⟩ k) := by
  have hi := index1 t
  unfold iblk
  rw [View.read_apply]
  show (V m c main_v2 : Vec FI S1792x128 .i8) _ = _
  refine congrArg _ (funext fun a => Fin.ext ?_)
  match a with
  | ⟨0, _⟩ => show win0_1.index t 0 * 256 + 1 * r.val = 256 * t.val + r.val; rw [hi.1]; omega
  | ⟨1, _⟩ => show win0_1.index t 1 * 128 + 1 * k.val = k.val; rw [hi.2]; omega

theorem blk2_V (t : Fin cfg0.N) (r : Fin 448) (k : Fin 4096) : (iblk m c 2 t : Vec FI S448x4096 .fp8e4m3) (ix2 r k)
    = (V m c main_arg2 : Vec FI S448x4096 .fp8e4m3) (ix2 r k) := by
  have hi := index2 t
  unfold iblk
  rw [View.read_apply]
  show (V m c main_arg2 : Vec FI S448x4096 .fp8e4m3) _ = _
  refine congrArg _ (funext fun a => Fin.ext ?_)
  match a with
  | ⟨0, _⟩ => show win0_2.index t 0 * 448 + 1 * r.val = r.val; rw [hi.1]; omega
  | ⟨1, _⟩ => show win0_2.index t 1 * 4096 + 1 * k.val = k.val; rw [hi.2]; omega

theorem blk3_V (t : Fin cfg0.N) (r : Fin 448) (k : Fin 128) : (iblk m c 3 t : Vec FI S448x128 .i8) (ix2 r k)
    = (V m c main_arg3 : Vec FI S448x128 .i8) (ix2 r k) := by
  have hi := index3 t
  unfold iblk
  rw [View.read_apply]
  show (V m c main_arg3 : Vec FI S448x128 .i8) _ = _
  refine congrArg _ (funext fun a => Fin.ext ?_)
  match a with
  | ⟨0, _⟩ => show win0_3.index t 0 * 448 + 1 * r.val = r.val; rw [hi.1]; omega
  | ⟨1, _⟩ => show win0_3.index t 1 * 128 + 1 * k.val = k.val; rw [hi.2]; omega

theorem blk4_V (t : Fin cfg0.N) (r : Fin 1) (k : Fin 384) : (iblk m c 4 t : Vec FI S1x384 .f32) (ix2 r k)
    = (V m c main_v3 : Vec FI S1x384 .f32) (ix2 r k) := by
  have hi := index4 t
  unfold iblk
  rw [View.read_apply]
  show (V m c main_v3 : Vec FI S1x384 .f32) _ = _
  refine congrArg _ (funext fun a => Fin.ext ?_)
  match a with
  | ⟨0, _⟩ => show win0_4.index t 0 * 1 + 1 * r.val = r.val; rw [hi.1]; omega
  | ⟨1, _⟩ => show win0_4.index t 1 * 384 + 1 * k.val = k.val; rw [hi.2]; omega

theorem blk5_V (t : Fin cfg0.N) (r : Fin 2) (k : Fin 896) : (iblk m c 5 t : Vec FI S2x896 .i32) (ix2 r k)
    = (V m c main_arg5 : Vec FI S2x896 .i32) (ix2 r k) := by
  have hi := index5 t
  unfold iblk
  rw [View.read_apply]
  show (V m c main_arg5 : Vec FI S2x896 .i32) _ = _
  refine congrArg _ (funext fun a => Fin.ext ?_)
  match a with
  | ⟨0, _⟩ => show win0_5.index t 0 * 2 + 1 * r.val = r.val; rw [hi.1]; omega
  | ⟨1, _⟩ => show win0_5.index t 1 * 896 + 1 * k.val = k.val; rw [hi.2]; omega

theorem blk6_V (t : Fin cfg0.N) (r : Fin 256) (k : Fin 384) : (iblk m c 6 t : Vec FI S256x384 .bf16) (ix2 r k)
    = (V m c main_v4 : Vec FI S1792x384 .bf16) (ix2 ⟨256 * t.val + r.val, by have := lt7 t; omega⟩ k) := by
  have hi := index6 t
  unfold iblk
  rw [View.read_apply]
  show (V m c main_v4 : Vec FI S1792x384 .bf16) _ = _
  refine congrArg _ (funext fun a => Fin.ext ?_)
  match a with
  | ⟨0, _⟩ => show win0_6.index t 0 * 256 + 1 * r.val = 256 * t.val + r.val; rw [hi.1]; omega
  | ⟨1, _⟩ => show win0_6.index t 1 * 384 + 1 * k.val = k.val; rw [hi.2]; omega

theorem blk7_V (t : Fin cfg0.N) (r : Fin 256) (k : Fin 64) : (iblk m c 7 t : Vec FI S256x64 .bf16) (ix2 r k)
    = (V m c main_v5 : Vec FI S1792x64 .bf16) (ix2 ⟨256 * t.val + r.val, by have := lt7 t; omega⟩ k) := by
  have hi := index7 t
  unfold iblk
  rw [View.read_apply]
  show (V m c main_v5 : Vec FI S1792x64 .bf16) _ = _
  refine congrArg _ (funext fun a => Fin.ext ?_)
  match a with
  | ⟨0, _⟩ => show win0_7.index t 0 * 256 + 1 * r.val = 256 * t.val + r.val; rw [hi.1]; omega
  | ⟨1, _⟩ => show win0_7.index t 1 * 64 + 1 * k.val = k.val; rw [hi.2]; omega

theorem blk8_V (t : Fin cfg0.N) (r : Fin 64) (k : Fin 128) : (iblk m c 8 t : Vec FI S64x128 .f32) (ix2 r k)
    = (V m c main_v0 : Vec FI S64x128 .f32) (ix2 r k) := by
  have hi := index8 t
  unfold iblk
  rw [View.read_apply]
  show (V m c main_v0 : Vec FI S64x128 .f32) _ = _
  refine congrArg _ (funext fun a => Fin.ext ?_)
  match a with
  | ⟨0, _⟩ => show win0_8.index t 0 * 64 + 1 * r.val = r.val; rw [hi.1]; omega
  | ⟨1, _⟩ => show win0_8.index t 1 * 128 + 1 * k.val = k.val; rw [hi.2]; omega

/-! ## The tiles, off the arguments -/

abbrev a0 : Vec FI ⟨3, ![2, 896, 4096]⟩ .fp8e4m3 := m ((c : Thread nD τ).loc main_arg0)
abbrev a1 : Vec FI ⟨3, ![2, 896, 128]⟩ .i8 := m ((c : Thread nD τ).loc main_arg1)
abbrev a2 : Vec FI ⟨2, ![448, 4096]⟩ .fp8e4m3 := m ((c : Thread nD τ).loc main_arg2)
abbrev a3 : Vec FI ⟨2, ![448, 128]⟩ .i8 := m ((c : Thread nD τ).loc main_arg3)
abbrev a4 : Vec FI ⟨1, ![384]⟩ .f32 := m ((c : Thread nD τ).loc main_arg4)
abbrev a5 : Vec FI ⟨2, ![2, 896]⟩ .i32 := m ((c : Thread nD τ).loc main_arg5)
abbrev a6 : Vec FI ⟨3, ![2, 896, 384]⟩ .bf16 := m ((c : Thread nD τ).loc main_arg6)
abbrev a7 : Vec FI ⟨3, ![2, 896, 64]⟩ .bf16 := m ((c : Thread nD τ).loc main_arg7)

/-- The decoded weights. -/
def Wv : FVec FI S448x4096 .bf16 := fun y => Spec.wN (a2 m c) (a3 m c) ⟨(y 0).val, (y 0).isLt⟩ ⟨(y 1).val, (y 1).isLt⟩

/-- The gain spread over the lanes. -/
def Gv : FVec FI S384x128 .f32 := fun y => a4 m c (ix1 ⟨(y 0).val, (y 0).isLt⟩)

/-- The row of every token. -/
def rowG : Fin 1792 → Fin 448 → EReal := Spec.rowN (a0 m c) (a1 m c) (a2 m c) (a3 m c) (a4 m c) (a5 m c) (a6 m c) (a7 m c) freq

theorem Wv_eq (t : Fin cfg0.N) : allW (iblk m c 2 t) (iblk m c 3 t) = Wv m c := by
  funext y
  unfold allW Wv Spec.wN
  rw [blk2_V, blk3_V, V_main_arg2, V_main_arg3]

theorem Gv_eq (t : Fin cfg0.N) : allG (iblk m c 4 t) = Gv m c := by
  funext y
  unfold allG Gv
  rw [blk4_V, V_v3]

theorem Xv_eq (t : Fin cfg0.N) (r : Fin 256) (k : Fin 4096) :
    allX (iblk m c 0 t) (iblk m c 1 t) (ix2 r k) = Spec.xN (a0 m c) (a1 m c) ⟨256 * t.val + r.val, by have := lt7 t; omega⟩ k := by
  unfold allX
  rw [blk0_V, blk1_V, V_v1, V_v2]
  rfl

theorem cP_eq (t : Fin cfg0.N) (r : Fin 256) :
    cP (Wv m c) (allX (iblk m c 0 t) (iblk m c 1 t)) r
      = Spec.cN (a0 m c) (a1 m c) (a2 m c) (a3 m c) ⟨256 * t.val + r.val, by have := lt7 t; omega⟩ := by
  funext o
  unfold cP Spec.cN
  refine Finset.sum_congr rfl fun k _ => ?_
  rw [Xv_eq]
  rfl

theorem posP_eq (t : Fin cfg0.N) (r : Fin 256) :
    posP (grid0.coords t) (iblk m c 5 t) r
      = FloatOps.sitofp (F := FI) .f32 (a5 m c (ix2 ⟨(256 * t.val + r.val) / 896, by have := lt7 t; omega⟩ ⟨(256 * t.val + r.val) % 896, by omega⟩)) := by
  unfold posP
  rw [blk5_V, V_main_arg5]
  have h := coord0 t
  have := lt7 t
  refine congrArg (fun i => FloatOps.sitofp (F := FI) .f32 (a5 m c i)) ?_
  have e1 : (⟨(((grid0.coords t 0).val * 256 + r.val) / 896) % 2, by omega⟩ : Fin 2) = ⟨(256 * t.val + r.val) / 896, by omega⟩ :=
    Fin.ext (by show (((grid0.coords t 0).val * 256 + r.val) / 896) % 2 = (256 * t.val + r.val) / 896; rw [h]; omega)
  have e2 : (⟨((grid0.coords t 0).val * 256 + r.val) % 896, by omega⟩ : Fin 896) = ⟨(256 * t.val + r.val) % 896, by omega⟩ :=
    Fin.ext (by show ((grid0.coords t 0).val * 256 + r.val) % 896 = (256 * t.val + r.val) % 896; rw [h]; omega)
  exact congrArg₂ ix2 e1 e2

theorem dc_eq (t : Fin cfg0.N) (r : Fin 256) :
    (fun o => (iblk m c 6 t : Vec FI S256x384 .bf16) (ix2 r o)) = Spec.dcN (a6 m c) ⟨256 * t.val + r.val, by have := lt7 t; omega⟩ := by
  funext o
  rw [blk6_V, V_v4]
  rfl

/-- The rows of the tile of point `t` are those of its tokens. -/
theorem rowV_eq (t : Fin cfg0.N) :
    rowV (grid0.coords t) (Wv m c) (Gv m c) (iblk m c 0 t) (iblk m c 1 t) (iblk m c 5 t) (iblk m c 6 t) (iblk m c 7 t) (iblk m c 8 t)
      = fun r => rowG m c ⟨256 * t.val + r.val, by have := lt7 t; omega⟩ := by
  funext r
  unfold rowV rowP rowG Spec.rowN
  rw [cP_eq, posP_eq, dc_eq]
  congr 1
  congr 1
  · funext j; rw [blk7_V, V_v5]
  · funext j; rw [blk8_V, V_v0]

/-- A run's share of the gradient of the gain. -/
theorem dgRun_eq (t : Fin cfg0.N) (r : Fin 2) (o : Fin 384) :
    dgRun (Wv m c) (allX (iblk m c 0 t) (iblk m c 1 t)) (iblk m c 6 t) r o
      = Spec.dgN (a0 m c) (a1 m c) (a2 m c) (a3 m c) (a6 m c) (2 * t.val + r.val) (by have := lt7 t; omega) o := by
  unfold dgRun Spec.dgN
  refine Finset.sum_congr rfl fun l _ => ?_
  rw [cP_eq, dc_eq]
  have e : (⟨256 * t.val + (⟨128 * r.val + l.val, by omega⟩ : Fin 256).val, by have := lt7 t; show 256 * t.val + (128 * r.val + l.val) < 1792; omega⟩ : Fin 1792)
      = ⟨128 * (2 * t.val + r.val) + l.val, by have := lt7 t; omega⟩ :=
    Fin.ext (by show 256 * t.val + (128 * r.val + l.val) = 128 * (2 * t.val + r.val) + l.val; omega)
  rw [e]

end Cert.KernelIdeal.Hand
-- ==== Proof.KernelValue.Frame.lean ====
/-
  The run of `KernelIdeal` over the extended reals: what its result arrays hold at the end.
-/
module

public import proofs.«01_k».proof.Proof.KernelIdealFrame.Frame
public import proofs.«01_k».proof.Proof.KernelValue.Blocks
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "FI" => Idealize.ShloMosaic.Ideal
local notation "𝕄" => MT nD τ sig Unit (Elt FI) ℕ (UR sig nD τ) ℕ

variable (m : (ℓ : Loc nD τ sig) → Buf (Elt FI) ℓ) (ρ : Dev nD → PrngReg)

/-! ## What each point leaves -/

/-- Every scale code is an exponent of a normal power of two. -/
def ScalesOk (c : Dev nD) : Prop :=
  (∀ y, 1 ≤ (a1 m c y).toNat ∧ (a1 m c y).toNat ≤ 254) ∧ ∀ y, 1 ≤ (a3 m c y).toNat ∧ (a3 m c y).toNat ≤ 254

theorem scalesX (c : Dev nD) (hs : ScalesOk m c) (t : Fin cfg0.N) (y : S256x128.Idx) :
    1 ≤ ((iblk m c 1 t : Vec FI S256x128 .i8) y).toNat ∧ ((iblk m c 1 t : Vec FI S256x128 .i8) y).toNat ≤ 254 := by
  obtain ⟨r, k, rfl⟩ : ∃ (r : Fin 256) (k : Fin 128), y = ix2 r k := ⟨⟨(y 0).val, (y 0).isLt⟩, ⟨(y 1).val, (y 1).isLt⟩, by funext a; fin_cases a <;> rfl⟩
  rw [blk1_V, V_v2]
  exact hs.1 _

theorem scalesW (c : Dev nD) (hs : ScalesOk m c) (t : Fin cfg0.N) (y : S448x128.Idx) :
    1 ≤ ((iblk m c 3 t : Vec FI S448x128 .i8) y).toNat ∧ ((iblk m c 3 t : Vec FI S448x128 .i8) y).toNat ≤ 254 := by
  obtain ⟨r, k, rfl⟩ : ∃ (r : Fin 448) (k : Fin 128), y = ix2 r k := ⟨⟨(y 0).val, (y 0).isLt⟩, ⟨(y 1).val, (y 1).isLt⟩, by funext a; fin_cases a <;> rfl⟩
  rw [blk3_V, V_main_arg3]
  exact hs.2 _

/-- The rows of the tile of point `t`. -/
def rT (c : Dev nD) (t : Fin cfg0.N) : Fin 256 → Fin 448 → EReal := fun r => rowG m c ⟨256 * t.val + r.val, by have := lt7 t; omega⟩

/-- What is known of the gradient of the gain after point `t`: the runs met so far are in their rows. -/
def Inv10 (c : Dev nD) (t : Fin cfg0.N) (X : Vec FI S2x7x384 .f32) : Prop :=
  ∀ y : S2x7x384.Idx, 7 * (y 0).val + (y 1).val < 2 * t.val + 2 →
    X y = Spec.dgainN (a0 m c) (a1 m c) (a2 m c) (a3 m c) (a6 m c) y

theorem Inv10_step (c : Dev nD) (t : Fin cfg0.N) (X0 X : Vec FI S2x7x384 .f32)
    (h : Step10 (grid0.coords t) (Wv m c) (allX (iblk m c 0 t) (iblk m c 1 t)) (iblk m c 6 t) X0 X)
    (h0 : ∀ y : S2x7x384.Idx, 7 * (y 0).val + (y 1).val < 2 * t.val → X0 y = Spec.dgainN (a0 m c) (a1 m c) (a2 m c) (a3 m c) (a6 m c) y) :
    Inv10 m c t X := by
  intro y hy
  have y0 : (y 0).val < 2 := (y 0).isLt
  have y1 : (y 1).val < 7 := (y 1).isLt
  have ht := lt7 t
  have hc := coord0 t
  by_cases hlt : 7 * (y 0).val + (y 1).val < 2 * t.val
  · refine (h.2 y fun r hr => ?_).trans (h0 y hlt)
    rw [hc] at hr
    have := r.isLt
    omega
  · obtain ⟨r, hr⟩ : ∃ r : Fin 2, 7 * (y 0).val + (y 1).val = 2 * t.val + r.val :=
      ⟨⟨7 * (y 0).val + (y 1).val - 2 * t.val, by omega⟩, by show _ = 2 * t.val + (7 * (y 0).val + (y 1).val - 2 * t.val); omega⟩
    refine (h.1 r y (by rw [hc]; omega) (by rw [hc]; omega)).trans ?_
    rw [dgRun_eq]
    unfold Spec.dgainN
    congr 1
    exact hr.symm

/-- What the body leaves in each output at point `t`. -/
def Rl (c : Dev nD) (w : Fin cfg0.W) (t : Fin cfg0.N) : ((cfg0.win w).block.Idx → Elt FI (cfg0.win w).elt) → Prop :=
  match w with
  | ⟨9, _⟩ => fun X => X = out9 (Wv m c) (rT m c t)
  | ⟨10, _⟩ => fun X => Inv10 m c t X
  | ⟨11, _⟩ => fun X => X = out11 (rT m c t)
  | ⟨12, _⟩ => fun X => X = out12 (rT m c t)
  | _ => fun _ => True

/-! ## The pipeline's proof data -/

/-- Between the points: after the first one the two carried scratch buffers hold the decoded weights and the gain. -/
def PhiS (c : Dev nD) : (n : ℕ) → n ≤ cfg0.N → sProp 𝕄
  | 0, _ => Pipeline.ΦA spec0 c
  | n + 1, _ => iprop(iprop(owns (c : Thread nD τ) scM0_0 fullShare (Wv m c) ∗ (∃ d, owns (c : Thread nD τ) scM0_1 fullShare d) ∗ owns (c : Thread nD τ) scM0_2 fullShare (Gv m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (Wv m c) ∗ (∃ d, owns (c : Thread nD τ) scM0_1 fullShare d) ∗ owns (c : Thread nD τ) scM0_2 fullShare (Gv m c)) ∗ (∃ r, prngReg c r)) := by
  cases n with
  | zero => exact absurd rfl hz
  | succ n => rfl

/-- The proof data: the inputs at their blocks; the outputs are held to `Rl` instead. -/
def datV (c : Dev nD) : Dat τ (Elt FI) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ k := PhiS m c k.val (Nat.lt_succ_iff.mp k.isLt)
  q _ := fullShare
  owed _ := 0

theorem datV_A (c : Dev nD) (w : Fin cfg0.W) : (datV m c).A w = V m c (Pipeline.arrRef spec0 w) := by
  dsimp only [datV]

theorem afterV_0 (c : Dev nD) (t : Fin cfg0.N) : (datV m c).after 0 t = iblk m c 0 t := by dsimp only [datV]
theorem afterV_1 (c : Dev nD) (t : Fin cfg0.N) : (datV m c).after 1 t = iblk m c 1 t := by dsimp only [datV]
theorem afterV_2 (c : Dev nD) (t : Fin cfg0.N) : (datV m c).after 2 t = iblk m c 2 t := by dsimp only [datV]
theorem afterV_3 (c : Dev nD) (t : Fin cfg0.N) : (datV m c).after 3 t = iblk m c 3 t := by dsimp only [datV]
theorem afterV_4 (c : Dev nD) (t : Fin cfg0.N) : (datV m c).after 4 t = iblk m c 4 t := by dsimp only [datV]
theorem afterV_5 (c : Dev nD) (t : Fin cfg0.N) : (datV m c).after 5 t = iblk m c 5 t := by dsimp only [datV]
theorem afterV_6 (c : Dev nD) (t : Fin cfg0.N) : (datV m c).after 6 t = iblk m c 6 t := by dsimp only [datV]
theorem afterV_7 (c : Dev nD) (t : Fin cfg0.N) : (datV m c).after 7 t = iblk m c 7 t := by dsimp only [datV]
theorem afterV_8 (c : Dev nD) (t : Fin cfg0.N) : (datV m c).after 8 t = iblk m c 8 t := by dsimp only [datV]
theorem beforeV_0 (c : Dev nD) (t : Fin cfg0.N) (d) : (datV m c).before 0 t d = iblk m c 0 t :=
  before0_0_of m (datV m c) (datV_A m c 0) (afterV_0 m c) t d
theorem beforeV_1 (c : Dev nD) (t : Fin cfg0.N) (d) : (datV m c).before 1 t d = iblk m c 1 t :=
  before0_1_of m (datV m c) (datV_A m c 1) (afterV_1 m c) t d
theorem beforeV_2 (c : Dev nD) (t : Fin cfg0.N) (d) : (datV m c).before 2 t d = iblk m c 2 t :=
  before0_2_of m (datV m c) (datV_A m c 2) (afterV_2 m c) t d
theorem beforeV_3 (c : Dev nD) (t : Fin cfg0.N) (d) : (datV m c).before 3 t d = iblk m c 3 t :=
  before0_3_of m (datV m c) (datV_A m c 3) (afterV_3 m c) t d
theorem beforeV_4 (c : Dev nD) (t : Fin cfg0.N) (d) : (datV m c).before 4 t d = iblk m c 4 t :=
  before0_4_of m (datV m c) (datV_A m c 4) (afterV_4 m c) t d
theorem beforeV_5 (c : Dev nD) (t : Fin cfg0.N) (d) : (datV m c).before 5 t d = iblk m c 5 t :=
  before0_5_of m (datV m c) (datV_A m c 5) (afterV_5 m c) t d
theorem beforeV_6 (c : Dev nD) (t : Fin cfg0.N) (d) : (datV m c).before 6 t d = iblk m c 6 t :=
  before0_6_of m (datV m c) (datV_A m c 6) (afterV_6 m c) t d
theorem beforeV_7 (c : Dev nD) (t : Fin cfg0.N) (d) : (datV m c).before 7 t d = iblk m c 7 t :=
  before0_7_of m (datV m c) (datV_A m c 7) (afterV_7 m c) t d
theorem beforeV_8 (c : Dev nD) (t : Fin cfg0.N) (d) : (datV m c).before 8 t d = iblk m c 8 t :=
  before0_8_of m (datV m c) (datV_A m c 8) (afterV_8 m c) t d

/-- The outputs held to `Rl`. -/
def rdatV (c : Dev nD) : Pipeline.RDat τ (Elt FI) Unit ℕ (UR sig nD τ) ℕ cfg0 c := (datV m c).toRRel forgets0 (Rl m c)

theorem finds10 (c : Dev nD) (t : Fin cfg0.N) (Y : Vec FI S2x7x384 .f32) (hY : ((datV m c).toRRel forgets0 (Rl m c)).Finds 10 t Y)
    (y : S2x7x384.Idx) (hy : 7 * (y 0).val + (y 1).val < 2 * t.val) :
    Y y = Spec.dgainN (a0 m c) (a1 m c) (a2 m c) (a3 m c) (a6 m c) y := by
  have ht := lt7 t
  have h0 : t.val ≠ 0 := by omega
  have hf : (cfg0.win 10).fetch t = false := (by decide +kernel : ∀ t : Fin grid0.N, win0_10.fetch t = false) t
  rcases (Pipeline.RDat.finds_of_pos _ hf h0 Y).1 hY with h | h
  · have := (flush0_10 _).1 h
    simp only at this
    omega
  · have h' : Inv10 m c ⟨t.val - 1, Nat.lt_of_le_of_lt (Nat.sub_le _ _) t.isLt⟩ Y :=
      Dat.toRRel_leaves (dat := datV m c) (fgt := forgets0) (Rl := Rl m c) (w := 10) rfl h
    exact h' y (by show _ < 2 * (t.val - 1) + 2; omega)

/-! ## The body, at a generic point -/

/-- What the body is called with at point `t`, -/
def bodyPreV (c : Dev nD) (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ d, owns (c : Thread nD τ) (ms0_3 t) fullShare ((datV m c).before 3 t d))
    ∗ (∃ d, owns (c : Thread nD τ) (ms0_4 t) fullShare ((datV m c).before 4 t d))
    ∗ (∃ d, owns (c : Thread nD τ) (ms0_5 t) fullShare ((datV m c).before 5 t d))
    ∗ (∃ d, owns (c : Thread nD τ) (ms0_6 t) fullShare ((datV m c).before 6 t d))
    ∗ (∃ d, owns (c : Thread nD τ) (ms0_7 t) fullShare ((datV m c).before 7 t d))
    ∗ (∃ d, owns (c : Thread nD τ) (ms0_8 t) fullShare ((datV m c).before 8 t d))
    ∗ (∃ Y, ⌜((datV m c).toRRel forgets0 (Rl m c)).Finds 9 t Y⌝ ∗ owns (c : Thread nD τ) (ms0_9 t) fullShare Y)
    ∗ (∃ Y, ⌜((datV m c).toRRel forgets0 (Rl m c)).Finds 10 t Y⌝ ∗ owns (c : Thread nD τ) (ms0_10 t) fullShare Y)
    ∗ (∃ Y, ⌜((datV m c).toRRel forgets0 (Rl m c)).Finds 11 t Y⌝ ∗ owns (c : Thread nD τ) (ms0_11 t) fullShare Y)
    ∗ (∃ Y, ⌜((datV m c).toRRel forgets0 (Rl m c)).Finds 12 t Y⌝ ∗ owns (c : Thread nD τ) (ms0_12 t) fullShare Y))

/-- and what it returns. -/
def bodyPostV (c : Dev nD) (t : Fin cfg0.N) : sProp 𝕄 :=
  iprop((datV m c).Φ t.succ ∗ (datV m c).owesAt () t.succ
    ∗ owns (c : Thread nD τ) (ms0_0 t) fullShare ((datV m c).after 0 t)
    ∗ owns (c : Thread nD τ) (ms0_1 t) fullShare ((datV m c).after 1 t)
    ∗ owns (c : Thread nD τ) (ms0_2 t) fullShare ((datV m c).after 2 t)
    ∗ owns (c : Thread nD τ) (ms0_3 t) fullShare ((datV m c).after 3 t)
    ∗ owns (c : Thread nD τ) (ms0_4 t) fullShare ((datV m c).after 4 t)
    ∗ owns (c : Thread nD τ) (ms0_5 t) fullShare ((datV m c).after 5 t)
    ∗ owns (c : Thread nD τ) (ms0_6 t) fullShare ((datV m c).after 6 t)
    ∗ owns (c : Thread nD τ) (ms0_7 t) fullShare ((datV m c).after 7 t)
    ∗ owns (c : Thread nD τ) (ms0_8 t) fullShare ((datV m c).after 8 t)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X))

set_option maxHeartbeats 3200000 in
theorem sound_bodyV (c : Dev nD) (hs : ScalesOk m c) (t : Fin cfg0.N) :
    bodyPreV m c t ⊢ wp Idealize.ShloMosaic.frame (wpE (defs₀ (F := FI)) Variants.none c none) Set.univ (bodyAt0 t) (fun _ => bodyPostV m c t) := by
  unfold bodyPreV bodyPostV bodyAt0
  simp only [beforeV_0, beforeV_1, beforeV_2, beforeV_3, beforeV_4, beforeV_5, beforeV_6, beforeV_7, beforeV_8]
  rw [show (datV m c).owesAt () t.succ = (datV m c).owesAt () t.castSucc from rfl,
    afterV_0, afterV_1, afterV_2, afterV_3, afterV_4, afterV_5, afterV_6, afterV_7, afterV_8]
  rw [show (datV m c).Φ t.succ = PhiS m c (t.val + 1) t.isLt from rfl, PhiS_pos m c _ _ (Nat.succ_ne_zero _)]
  rw [show (datV m c).Φ t.castSucc = PhiS m c t.val (Nat.le_of_lt t.isLt) from rfl]
  have hN : t.val < 7 := lt7 t
  have hrow := rowV_eq m c t
  by_cases h0 : t.val % 7 = 0
  · rw [PhiS_zero m c _ _ (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, %hY10, H10⟩, ⟨%Y11, %hY11, H11⟩, ⟨%Y12, %hY12, H12⟩⟩
    iapply (tripleA c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y10 ((hcond0_0 t).mpr h0) (scalesX m c hs t) (scalesW m c hs t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    rw [Wv_eq m c t, Gv_eq m c t]
    rw [hrow]
    iintro ⟨H0, H1, H2, H3, H4, H5, H6, H7, H8, H9, ⟨%X, %hX, H10⟩, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; · ipureintro; exact (rfl : out9 (Wv m c) (rT m c t) = out9 (Wv m c) (rT m c t))
      iexact H9
    isplitl [H10]
    · iexists X; isplitr; · ipureintro; exact Inv10_step m c t Y10 X hX (finds10 m c t Y10 hY10)
      iexact H10
    isplitl [H11]
    · iexists _; isplitr; · ipureintro; exact (rfl : out11 (rT m c t) = out11 (rT m c t))
      iexact H11
    iexists _; isplitr; · ipureintro; exact (rfl : out12 (rT m c t) = out12 (rT m c t))
    iexact H12
  · rw [PhiS_pos m c _ _ (by omega)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, %hY10, H10⟩, ⟨%Y11, %hY11, H11⟩, ⟨%Y12, %hY12, H12⟩⟩
    iapply (tripleB c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y10 (Wv m c) (Gv m c) (fun h => h0 ((hcond0_0 t).mp h)) (scalesX m c hs t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    rw [hrow]
    iintro ⟨H0, H1, H2, H3, H4, H5, H6, H7, H8, H9, ⟨%X, %hX, H10⟩, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; · ipureintro; exact (rfl : out9 (Wv m c) (rT m c t) = out9 (Wv m c) (rT m c t))
      iexact H9
    isplitl [H10]
    · iexists X; isplitr; · ipureintro; exact Inv10_step m c t Y10 X hX (finds10 m c t Y10 hY10)
      iexact H10
    isplitl [H11]
    · iexists _; isplitr; · ipureintro; exact (rfl : out11 (rT m c t) = out11 (rT m c t))
      iexact H11
    iexists _; isplitr; · ipureintro; exact (rfl : out12 (rT m c t) = out12 (rT m c t))
    iexact H12

theorem body_obligationV (c : Dev nD) (hs : ScalesOk m c) :
    Pipeline.BodyObligationRel (datV m c) (defs₀ (F := FI)) Variants.none () Set.univ forgets0 (Rl m c) := fun t => by
  rw [bigSep_W0, bigSep_W0, defs₀_row]
  exact triple_restated (sound_bodyV m c hs t) rfl .rfl fun _ => .rfl

theorem hinV (c : Dev nD) : Pipeline.ΦA spec0 c ⊢ (datV m c).Φ 0 := by
  rw [show (datV m c).Φ 0 = PhiS m c 0 (Nat.zero_le _) from rfl, PhiS_zero m c 0 _ rfl]

theorem houtV (c : Dev nD) : (datV m c).Φ (Fin.last cfg0.N) ⊢ Pipeline.ΦA spec0 c := by
  rw [show (datV m c).Φ (Fin.last cfg0.N) = PhiS m c cfg0.N (Nat.le_refl _) from rfl,
    PhiS_pos m c _ _ (by have : cfg0.N = 7 := N_0; omega), PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

set_option backward.isDefEq.respectTransparency.types false in
/-- Every run ends with the arrays as the proof data say. -/
theorem run_mainV (hs : ∀ c, ScalesOk m c) :
    θ_run defs (onTc (τ := τ) (main (F := FI))) (s₀ m ρ) (Pipeline.RDat.FramePost (cfgs 0) (rdatV m) (V m)) :=
  Pipeline.RDat.θ_run_frame_track cfgs (0 : Fin 1) launch0 defs₀ Variants.none (rdatV m) m ρ main
    (hbody := fun c => (body_obligationV m c (hs c)).toRRel) (hshare := fun c => (datV m c).share_full fun _ => rfl)
    (howed := fun _ _ => rfl) (V := V m) (hmain := hmain m Variants.none) (hA := datV_A m) (hin := hinV m) (hout := houtV m)

end Cert.KernelIdeal.Hand
-- ==== Proof.KernelValue.Arrays.lean ====
/-
  The result arrays of `KernelIdeal`, off the arguments.
-/
module

public import proofs.«01_k».proof.Proof.KernelValue.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

local notation "FI" => Idealize.ShloMosaic.Ideal

variable (m : (ℓ : Loc nD τ sig) → Buf (Elt FI) ℓ) (ρ : Dev nD → PrngReg) (c : Dev nD)

/-- The gradient of the input. -/
abbrev res0 : Vec FI ⟨2, ![1792, 4096]⟩ .bf16 := Spec.dxN (a0 m c) (a1 m c) (a2 m c) (a3 m c) (a4 m c) (a5 m c) (a6 m c) (a7 m c) freq
/-- The gradient of the gain. -/
abbrev res1 : Vec FI ⟨3, ![2, 7, 384]⟩ .f32 := Spec.dgainN (a0 m c) (a1 m c) (a2 m c) (a3 m c) (a6 m c)
/-- The codes. -/
abbrev res2 : Vec FI ⟨2, ![1792, 448]⟩ .fp8e5m2 := Spec.codesN (a0 m c) (a1 m c) (a2 m c) (a3 m c) (a4 m c) (a5 m c) (a6 m c) (a7 m c) freq
/-- The scales. -/
abbrev res3 : Vec FI ⟨2, ![1792, 14]⟩ .i8 := Spec.scalesN (a0 m c) (a1 m c) (a2 m c) (a3 m c) (a4 m c) (a5 m c) (a6 m c) (a7 m c) freq

theorem index9 : ∀ t : Fin cfg0.N, win0_9.index t (0 : Fin 2) = t.val ∧ win0_9.index t (1 : Fin 2) = 0 := (by decide +kernel : ∀ t : Fin grid0.N, _)

theorem cut9 (t : Fin cfg0.N) : (cfg0.win 9).cut (grid0.coords t) (out9 (Wv m c) (rT m c t) : Vec FI S256x4096 .bf16) = ((cfg0.win 9).blk t).view.read (Elt FI) (res0 m c) := by
  obtain ⟨e0, e1⟩ := index9 t
  funext y
  have hb0 : (((cfg0.win 9).blk t).view.emb y 0).val = win0_9.index t (0 : Fin 2) * 256 + 1 * (y 0).val := rfl
  have hb1 : (((cfg0.win 9).blk t).view.emb y 1).val = win0_9.index t (1 : Fin 2) * 4096 + 1 * (y 1).val := rfl
  have hy0 : (y 0).val < 256 := (y 0).isLt
  have hy1 : (y 1).val < 4096 := (y 1).isLt
  have ht := lt7 t
  show (out9 (Wv m c) (rT m c t) : Vec FI S256x4096 .bf16) ((cfg0.win 9).xinj (grid0.coords t) y) = res0 m c (((cfg0.win 9).blk t).view.emb y)
  have i0 : (⟨256 * t.val + (y 0).val, by omega⟩ : Fin 1792) = ⟨(((cfg0.win 9).blk t).view.emb y 0).val, by rw [hb0, e0]; omega⟩ :=
    Fin.ext (by show 256 * t.val + (y 0).val = (((cfg0.win 9).blk t).view.emb y 0).val; rw [hb0, e0]; omega)
  have i1 : (⟨(y 1).val, hy1⟩ : Fin 4096) = ⟨(((cfg0.win 9).blk t).view.emb y 1).val, by rw [hb1, e1]; omega⟩ :=
    Fin.ext (by show (y 1).val = (((cfg0.win 9).blk t).view.emb y 1).val; rw [hb1, e1]; omega)
  exact congrArg₂ (fun n d => (∑ o, Spec.vS (rowG m c n) o * Spec.wN (a2 m c) (a3 m c) o d : EReal)) i0 i1

theorem mem_blk9 (t : Fin cfg0.N) (i : S1792x4096.Idx) :
    i ∈ ((cfg0.win 9).blk t).view.set ↔ ∀ a : Fin 2, win0_9.index t a * S256x4096.size a ≤ (i a).val ∧ (i a).val < win0_9.index t a * S256x4096.size a + S256x4096.size a := by
  show i ∈ ((View.whole main_v6_0).slice (win0_9.rect t)).set ↔ _
  rw [View.set_slice_whole, Rect.mem_set_unit]
  exact Iff.rfl

theorem cover9 (i : S1792x4096.Idx) : ∃ t : Fin cfg0.N, (cfg0.win 9).flush t = true ∧ i ∈ ((cfg0.win 9).blk t).view.set := by
  have hi0 : (i 0).val < 1792 := (i 0).isLt
  have hi1 : (i 1).val < 4096 := (i 1).isLt
  have hN : cfg0.N = 7 := N_0
  refine ⟨⟨(i 0).val / 256, by omega⟩, flush0_9 _, ?_⟩
  obtain ⟨e0, e1⟩ := index9 ⟨(i 0).val / 256, by omega⟩
  rw [mem_blk9]
  intro a
  match a with
  | ⟨0, _⟩ => show win0_9.index _ (0 : Fin 2) * 256 ≤ (i 0).val ∧ (i 0).val < win0_9.index _ (0 : Fin 2) * 256 + 256; rw [e0]; simp only; omega
  | ⟨1, _⟩ => show win0_9.index _ (1 : Fin 2) * 4096 ≤ (i 1).val ∧ (i 1).val < win0_9.index _ (1 : Fin 2) * 4096 + 4096; rw [e1]; omega

theorem index11 : ∀ t : Fin cfg0.N, win0_11.index t (0 : Fin 2) = t.val ∧ win0_11.index t (1 : Fin 2) = 0 := (by decide +kernel : ∀ t : Fin grid0.N, _)

theorem cut11 (t : Fin cfg0.N) : (cfg0.win 11).cut (grid0.coords t) (out11 (rT m c t) : Vec FI S256x448 .fp8e5m2) = ((cfg0.win 11).blk t).view.read (Elt FI) (res2 m c) := by
  obtain ⟨e0, e1⟩ := index11 t
  funext y
  have hb0 : (((cfg0.win 11).blk t).view.emb y 0).val = win0_11.index t (0 : Fin 2) * 256 + 1 * (y 0).val := rfl
  have hb1 : (((cfg0.win 11).blk t).view.emb y 1).val = win0_11.index t (1 : Fin 2) * 448 + 1 * (y 1).val := rfl
  have hy0 : (y 0).val < 256 := (y 0).isLt
  have hy1 : (y 1).val < 448 := (y 1).isLt
  have ht := lt7 t
  show (out11 (rT m c t) : Vec FI S256x448 .fp8e5m2) ((cfg0.win 11).xinj (grid0.coords t) y) = res2 m c (((cfg0.win 11).blk t).view.emb y)
  have i0 : (⟨256 * t.val + (y 0).val, by omega⟩ : Fin 1792) = ⟨(((cfg0.win 11).blk t).view.emb y 0).val, by rw [hb0, e0]; omega⟩ :=
    Fin.ext (by show 256 * t.val + (y 0).val = (((cfg0.win 11).blk t).view.emb y 0).val; rw [hb0, e0]; omega)
  have i1 : (⟨(y 1).val, hy1⟩ : Fin 448) = ⟨(((cfg0.win 11).blk t).view.emb y 1).val, by rw [hb1, e1]; omega⟩ :=
    Fin.ext (by show (y 1).val = (((cfg0.win 11).blk t).view.emb y 1).val; rw [hb1, e1]; omega)
  exact congrArg₂ (fun n d => Spec.qS (rowG m c n) d) i0 i1

theorem mem_blk11 (t : Fin cfg0.N) (i : S1792x448.Idx) :
    i ∈ ((cfg0.win 11).blk t).view.set ↔ ∀ a : Fin 2, win0_11.index t a * S256x448.size a ≤ (i a).val ∧ (i a).val < win0_11.index t a * S256x448.size a + S256x448.size a := by
  show i ∈ ((View.whole main_v6_2).slice (win0_11.rect t)).set ↔ _
  rw [View.set_slice_whole, Rect.mem_set_unit]
  exact Iff.rfl

theorem cover11 (i : S1792x448.Idx) : ∃ t : Fin cfg0.N, (cfg0.win 11).flush t = true ∧ i ∈ ((cfg0.win 11).blk t).view.set := by
  have hi0 : (i 0).val < 1792 := (i 0).isLt
  have hi1 : (i 1).val < 448 := (i 1).isLt
  have hN : cfg0.N = 7 := N_0
  refine ⟨⟨(i 0).val / 256, by omega⟩, flush0_11 _, ?_⟩
  obtain ⟨e0, e1⟩ := index11 ⟨(i 0).val / 256, by omega⟩
  rw [mem_blk11]
  intro a
  match a with
  | ⟨0, _⟩ => show win0_11.index _ (0 : Fin 2) * 256 ≤ (i 0).val ∧ (i 0).val < win0_11.index _ (0 : Fin 2) * 256 + 256; rw [e0]; simp only; omega
  | ⟨1, _⟩ => show win0_11.index _ (1 : Fin 2) * 448 ≤ (i 1).val ∧ (i 1).val < win0_11.index _ (1 : Fin 2) * 448 + 448; rw [e1]; omega

theorem index12 : ∀ t : Fin cfg0.N, win0_12.index t (0 : Fin 2) = t.val ∧ win0_12.index t (1 : Fin 2) = 0 := (by decide +kernel : ∀ t : Fin grid0.N, _)

theorem cut12 (t : Fin cfg0.N) : (cfg0.win 12).cut (grid0.coords t) (out12 (rT m c t) : Vec FI S256x14 .i8) = ((cfg0.win 12).blk t).view.read (Elt FI) (res3 m c) := by
  obtain ⟨e0, e1⟩ := index12 t
  funext y
  have hb0 : (((cfg0.win 12).blk t).view.emb y 0).val = win0_12.index t (0 : Fin 2) * 256 + 1 * (y 0).val := rfl
  have hb1 : (((cfg0.win 12).blk t).view.emb y 1).val = win0_12.index t (1 : Fin 2) * 14 + 1 * (y 1).val := rfl
  have hy0 : (y 0).val < 256 := (y 0).isLt
  have hy1 : (y 1).val < 14 := (y 1).isLt
  have ht := lt7 t
  show (out12 (rT m c t) : Vec FI S256x14 .i8) ((cfg0.win 12).xinj (grid0.coords t) y) = res3 m c (((cfg0.win 12).blk t).view.emb y)
  have i0 : (⟨256 * t.val + (y 0).val, by omega⟩ : Fin 1792) = ⟨(((cfg0.win 12).blk t).view.emb y 0).val, by rw [hb0, e0]; omega⟩ :=
    Fin.ext (by show 256 * t.val + (y 0).val = (((cfg0.win 12).blk t).view.emb y 0).val; rw [hb0, e0]; omega)
  have i1 : (⟨(y 1).val, hy1⟩ : Fin 14) = ⟨(((cfg0.win 12).blk t).view.emb y 1).val, by rw [hb1, e1]; omega⟩ :=
    Fin.ext (by show (y 1).val = (((cfg0.win 12).blk t).view.emb y 1).val; rw [hb1, e1]; omega)
  exact congrArg₂ (fun n d => Spec.sG (Spec.grp (rowG m c n) d)) i0 i1

theorem mem_blk12 (t : Fin cfg0.N) (i : S1792x14.Idx) :
    i ∈ ((cfg0.win 12).blk t).view.set ↔ ∀ a : Fin 2, win0_12.index t a * S256x14.size a ≤ (i a).val ∧ (i a).val < win0_12.index t a * S256x14.size a + S256x14.size a := by
  show i ∈ ((View.whole main_v6_3).slice (win0_12.rect t)).set ↔ _
  rw [View.set_slice_whole, Rect.mem_set_unit]
  exact Iff.rfl

theorem cover12 (i : S1792x14.Idx) : ∃ t : Fin cfg0.N, (cfg0.win 12).flush t = true ∧ i ∈ ((cfg0.win 12).blk t).view.set := by
  have hi0 : (i 0).val < 1792 := (i 0).isLt
  have hi1 : (i 1).val < 14 := (i 1).isLt
  have hN : cfg0.N = 7 := N_0
  refine ⟨⟨(i 0).val / 256, by omega⟩, flush0_12 _, ?_⟩
  obtain ⟨e0, e1⟩ := index12 ⟨(i 0).val / 256, by omega⟩
  rw [mem_blk12]
  intro a
  match a with
  | ⟨0, _⟩ => show win0_12.index _ (0 : Fin 2) * 256 ≤ (i 0).val ∧ (i 0).val < win0_12.index _ (0 : Fin 2) * 256 + 256; rw [e0]; simp only; omega
  | ⟨1, _⟩ => show win0_12.index _ (1 : Fin 2) * 14 ≤ (i 1).val ∧ (i 1).val < win0_12.index _ (1 : Fin 2) * 14 + 14; rw [e1]; omega

theorem index10 : ∀ t : Fin cfg0.N, win0_10.index t (0 : Fin 3) = 0 ∧ win0_10.index t (1 : Fin 3) = 0 ∧ win0_10.index t (2 : Fin 3) = 0 :=
  (by decide +kernel : ∀ t : Fin grid0.N, _)

theorem cut10 (t : Fin cfg0.N) (h6 : t.val % 7 = 6) (X : Vec FI S2x7x384 .f32) (hX : Inv10 m c t X) :
    (cfg0.win 10).cut (grid0.coords t) X = ((cfg0.win 10).blk t).view.read (Elt FI) (res1 m c) := by
  obtain ⟨e0, e1, e2⟩ := index10 t
  funext y
  have hb0 : (((cfg0.win 10).blk t).view.emb y 0).val = win0_10.index t (0 : Fin 3) * 2 + 1 * (y 0).val := rfl
  have hb1 : (((cfg0.win 10).blk t).view.emb y 1).val = win0_10.index t (1 : Fin 3) * 7 + 1 * (y 1).val := rfl
  have hb2 : (((cfg0.win 10).blk t).view.emb y 2).val = win0_10.index t (2 : Fin 3) * 384 + 1 * (y 2).val := rfl
  have hy0 : (y 0).val < 2 := (y 0).isLt
  have hy1 : (y 1).val < 7 := (y 1).isLt
  have ht := lt7 t
  show X ((cfg0.win 10).xinj (grid0.coords t) y) = res1 m c (((cfg0.win 10).blk t).view.emb y)
  refine (hX _ (by show 7 * (y 0).val + (y 1).val < 2 * t.val + 2; omega)).trans (congrArg (res1 m c) (funext fun a => Fin.ext ?_))
  match a with
  | ⟨0, _⟩ => show (y 0).val = (((cfg0.win 10).blk t).view.emb y 0).val; rw [hb0, e0]; omega
  | ⟨1, _⟩ => show (y 1).val = (((cfg0.win 10).blk t).view.emb y 1).val; rw [hb1, e1]; omega
  | ⟨2, _⟩ => show (y 2).val = (((cfg0.win 10).blk t).view.emb y 2).val; rw [hb2, e2]; omega

theorem mem_blk10 (t : Fin cfg0.N) (i : S2x7x384.Idx) :
    i ∈ ((cfg0.win 10).blk t).view.set ↔ ∀ a : Fin 3, win0_10.index t a * S2x7x384.size a ≤ (i a).val ∧ (i a).val < win0_10.index t a * S2x7x384.size a + S2x7x384.size a := by
  show i ∈ ((View.whole main_v6_1).slice (win0_10.rect t)).set ↔ _
  rw [View.set_slice_whole, Rect.mem_set_unit]
  exact Iff.rfl

theorem cover10 (i : S2x7x384.Idx) : ∃ t : Fin cfg0.N, (cfg0.win 10).flush t = true ∧ i ∈ ((cfg0.win 10).blk t).view.set := by
  have hN : cfg0.N = 7 := N_0
  refine ⟨⟨6, by omega⟩, (flush0_10 _).2 rfl, ?_⟩
  obtain ⟨e0, e1, e2⟩ := index10 ⟨6, by omega⟩
  rw [mem_blk10]
  have h0 : (i 0).val < 2 := (i 0).isLt
  have h1 : (i 1).val < 7 := (i 1).isLt
  have h2 : (i 2).val < 384 := (i 2).isLt
  intro a
  match a with
  | ⟨0, _⟩ => show win0_10.index _ (0 : Fin 3) * 2 ≤ (i 0).val ∧ (i 0).val < win0_10.index _ (0 : Fin 3) * 2 + 2; rw [e0]; omega
  | ⟨1, _⟩ => show win0_10.index _ (1 : Fin 3) * 7 ≤ (i 1).val ∧ (i 1).val < win0_10.index _ (1 : Fin 3) * 7 + 7; rw [e1]; omega
  | ⟨2, _⟩ => show win0_10.index _ (2 : Fin 3) * 384 ≤ (i 2).val ∧ (i 2).val < win0_10.index _ (2 : Fin 3) * 384 + 384; rw [e2]; omega

/-- What a run ends with in the result arrays. -/
theorem results (r : PUnit × MemSt nD τ sig (Elt FI)) (h : Pipeline.RDat.FramePost (cfgs 0) (rdatV m) (V m) r) :
    r.2.mem ((c.tc : Thread nD τ).loc main_v6_0) = res0 m c ∧ r.2.mem ((c.tc : Thread nD τ).loc main_v6_1) = res1 m c
      ∧ r.2.mem ((c.tc : Thread nD τ).loc main_v6_2) = res2 m c ∧ r.2.mem ((c.tc : Thread nD τ).loc main_v6_3) = res3 m c := by
  obtain ⟨after, hL, hA⟩ := Pipeline.RDat.FramePost.exists_exact h c
  have key : ∀ (w : Fin cfg0.W), forgets0 w = true → ∀ t, (cfg0.win w).flush t = true → Rl m c w t (after w t) := fun w hw t hf =>
    Dat.toRRel_leaves (dat := datV m c) (fgt := forgets0) (Rl := Rl m c) (w := w) hw (hL w t hf)
  refine ⟨(hA 9).trans ?_, (hA 10).trans ?_, (hA 11).trans ?_, (hA 12).trans ?_⟩
  · refine Dat.arrAt_eq_of_cover ((rdatV m c).withAfter after) 9 (res0 m c) (fun t hf => ?_) cover9
    have hk : after 9 t = out9 (Wv m c) (rT m c t) := key 9 rfl t hf
    show (cfg0.win 9).cut (grid0.coords t) (after 9 t) = _
    rw [hk]; exact cut9 m c t
  · refine Dat.arrAt_eq_of_cover ((rdatV m c).withAfter after) 10 (res1 m c) (fun t hf => ?_) cover10
    exact cut10 m c t ((flush0_10 t).1 hf) (after 10 t) (key 10 rfl t hf)
  · refine Dat.arrAt_eq_of_cover ((rdatV m c).withAfter after) 11 (res2 m c) (fun t hf => ?_) cover11
    have hk : after 11 t = out11 (rT m c t) := key 11 rfl t hf
    show (cfg0.win 11).cut (grid0.coords t) (after 11 t) = _
    rw [hk]; exact cut11 m c t
  · refine Dat.arrAt_eq_of_cover ((rdatV m c).withAfter after) 12 (res3 m c) (fun t hf => ?_) cover12
    have hk : after 12 t = out12 (rT m c t) := key 12 rfl t hf
    show (cfg0.win 12).cut (grid0.coords t) (after 12 t) = _
    rw [hk]; exact cut12 m c t

/-- Every run ends with the results at their values and the arguments unchanged. -/
theorem value (hs : ∀ c, ScalesOk m c) :
    θ_run defs (onTc (τ := τ) (main (F := FI))) ⟨m, fun _ => 0, ρ⟩ (fun r =>
      (∀ c : Dev nD, r.2.mem ((c.tc : Thread nD τ).loc main_v6_0) = res0 m c ∧ r.2.mem ((c.tc : Thread nD τ).loc main_v6_1) = res1 m c
        ∧ r.2.mem ((c.tc : Thread nD τ).loc main_v6_2) = res2 m c ∧ r.2.mem ((c.tc : Thread nD τ).loc main_v6_3) = res3 m c)) :=
  (θ_run defs _ _).mono (fun r h c => results m c r h) (run_mainV m ρ hs)

end Cert.KernelIdeal.Hand
-- ==== Proof.ReferenceValue.Rows.lean ====
/-
  The reference's decoded operands, latent and latent gradient, element by element.
-/
module

public import proofs.«01_k».proof.Proof.Gen.ReferenceIdeal.Skeleton
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

local notation "FI" => Idealize.ShloMosaic.Ideal

/-! ## Groups of 32 -/

/-- Columns in groups of 32 laid side by side. -/
theorem ungroup {α : Type} {N M K : ℕ} (hK : K = M * 32) (X : (⟨3, ![N, M, 32]⟩ : Shape).Idx → α)
    (h : (⟨3, ![N, M, 32]⟩ : Shape).ShapeCasts ⟨2, ![N, K]⟩) (n : Fin N) (k : Fin K) :
    shapeCast ⟨2, ![N, K]⟩ X h (ix2 n k) = X (ix3 n ⟨k.val / 32, by omega⟩ ⟨k.val % 32, by omega⟩) :=
  shapeCast_apply _ _ _ _ (by
    rw [Shape.rowMajor_val_three, Shape.rowMajor_val_two]
    show (n.val * M + k.val / 32) * 32 + k.val % 32 = n.val * K + k.val
    have e : n.val * K = n.val * (M * 32) := congrArg _ hK
    rw [e, Nat.add_mul, Nat.add_assoc, Nat.div_add_mod', Nat.mul_assoc])

/-- Columns taken in groups of 32. -/
theorem group {α : Type} {N M K : ℕ} (hK : K = M * 32) (X : (⟨2, ![N, K]⟩ : Shape).Idx → α)
    (h : (⟨2, ![N, K]⟩ : Shape).ShapeCasts ⟨3, ![N, M, 32]⟩) (n : Fin N) (m : Fin M) (y : Fin 32) :
    shapeCast ⟨3, ![N, M, 32]⟩ X h (ix3 n m y) = X (ix2 n ⟨32 * m.val + y.val, by omega⟩) :=
  shapeCast_apply _ _ _ _ (by
    rw [Shape.rowMajor_val_three, Shape.rowMajor_val_two]
    show n.val * K + (32 * m.val + y.val) = (n.val * M + m.val) * 32 + y.val
    have e : n.val * K = n.val * (M * 32) := congrArg _ hK
    rw [e]; ring)

/-- Two sequences read as one list of tokens, columns taken in groups of 32. -/
theorem group3 {α : Type} (X : S2x896x4096.Idx → α) (h : S2x896x4096.ShapeCasts S1792x128x32) (n : Fin 1792) (m : Fin 128) (y : Fin 32) :
    shapeCast S1792x128x32 X h (ix3 n m y) = X (ix3 ⟨n.val / 896, by omega⟩ ⟨n.val % 896, by omega⟩ ⟨32 * m.val + y.val, by omega⟩) :=
  shapeCast_apply (s := S2x896x4096) (t := S1792x128x32) X h _ _ (by
    rw [Shape.rowMajor_val_three, Shape.rowMajor_val_three]
    show (n.val / 896 * 896 + n.val % 896) * 4096 + (32 * m.val + y.val) = (n.val * 128 + m.val) * 32 + y.val
    omega)

/-- The positions of two sequences read as one column. -/
theorem flatPos {α : Type} (X : S2x896.Idx → α) (h : S2x896.ShapeCasts S1792x1) (n : Fin 1792) :
    shapeCast S1792x1 X h (ix2 n 0) = X (ix2 ⟨n.val / 896, by omega⟩ ⟨n.val % 896, by omega⟩) :=
  shapeCast_apply (s := S2x896) (t := S1792x1) X h _ _ (by
    rw [Shape.rowMajor_val_two, Shape.rowMajor_val_two]
    show n.val / 896 * 896 + n.val % 896 = n.val * 1 + 0
    omega)

/-- Tokens taken in runs of 128. -/
theorem runs4 {α : Type} (X : S1792x384.Idx → α) (h : S1792x384.ShapeCasts S2x7x128x384) (b : Fin 2) (r : Fin 7) (l : Fin 128) (o : Fin 384) :
    shapeCast S2x7x128x384 X h (ix4 b r l o) = X (ix2 ⟨128 * (7 * b.val + r.val) + l.val, by omega⟩ o) :=
  shapeCast_apply (s := S1792x384) (t := S2x7x128x384) X h _ _ (by
    rw [Shape.rowMajor_val_two, Shape.rowMajor_val_four]
    show (128 * (7 * b.val + r.val) + l.val) * 384 + o.val = ((b.val * 7 + r.val) * 128 + l.val) * 384 + o.val
    omega)

/-- Each group of 32 times the group's own factor. -/
def timesG {N M K : ℕ} (v : FVec FI ⟨3, ![N, M, 32]⟩ .bf16) (s : FVec FI ⟨2, ![N, M]⟩ .bf16)
    (h2 : (⟨2, ![N, M]⟩ : Shape).ShapeCasts ⟨3, ![N, M, 1]⟩) (h3 : (⟨3, ![N, M, 1]⟩ : Shape).Broadcasts ⟨3, ![N, M, 32]⟩)
    (h4 : (⟨3, ![N, M, 32]⟩ : Shape).ShapeCasts ⟨2, ![N, K]⟩) : FVec FI ⟨2, ![N, K]⟩ .bf16 :=
  shapeCast ⟨2, ![N, K]⟩ (mulf v (broadcastTo ⟨3, ![N, M, 32]⟩ (shapeCast ⟨3, ![N, M, 1]⟩ s h2) h3)) h4

/-- A factor spread over its group. -/
theorem spread {α : Type} {N M : ℕ} (s : (⟨2, ![N, M]⟩ : Shape).Idx → α)
    (h2 : (⟨2, ![N, M]⟩ : Shape).ShapeCasts ⟨3, ![N, M, 1]⟩) {Y : ℕ} (h3 : (⟨3, ![N, M, 1]⟩ : Shape).Broadcasts ⟨3, ![N, M, Y]⟩)
    (n : Fin N) (m : Fin M) (y : Fin Y) :
    broadcastTo ⟨3, ![N, M, Y]⟩ (shapeCast ⟨3, ![N, M, 1]⟩ s h2) h3 (ix3 n m y) = s (ix2 n m) := by
  have e : broadcastTo ⟨3, ![N, M, Y]⟩ (shapeCast ⟨3, ![N, M, 1]⟩ s h2) h3 (ix3 n m y) = shapeCast ⟨3, ![N, M, 1]⟩ s h2 (ix3 n m 0) := by
    unfold broadcastTo
    refine congrArg _ ?_
    funext a; apply Fin.ext
    match a with
    | ⟨0, h0⟩ =>
      by_cases hh : (⟨3, ![N, M, 1]⟩ : Shape).size ⟨0, h0⟩ = 1
      · rw [dif_pos hh]; have := n.isLt; have hh' : N = 1 := hh; show 0 = n.val; omega
      · rw [dif_neg hh]; rfl
    | ⟨1, h0⟩ =>
      by_cases hh : (⟨3, ![N, M, 1]⟩ : Shape).size ⟨1, h0⟩ = 1
      · rw [dif_pos hh]; have := m.isLt; have hh' : M = 1 := hh; show 0 = m.val; omega
      · rw [dif_neg hh]; rfl
    | ⟨2, _⟩ => rfl
  rw [e]
  exact shapeCast_apply _ _ _ _ (by
    rw [Shape.rowMajor_val_three, Shape.rowMajor_val_two]
    show n.val * M + m.val = (n.val * M + m.val) * 1 + 0
    omega)

theorem timesG_apply {N M K : ℕ} (hK : K = M * 32) (v : FVec FI ⟨3, ![N, M, 32]⟩ .bf16) (s : FVec FI ⟨2, ![N, M]⟩ .bf16)
    (h2 : (⟨2, ![N, M]⟩ : Shape).ShapeCasts ⟨3, ![N, M, 1]⟩) (h3 : (⟨3, ![N, M, 1]⟩ : Shape).Broadcasts ⟨3, ![N, M, 32]⟩)
    (h4 : (⟨3, ![N, M, 32]⟩ : Shape).ShapeCasts ⟨2, ![N, K]⟩) (n : Fin N) (k : Fin K) :
    timesG v s h2 h3 h4 (ix2 n k) = (v (ix3 n ⟨k.val / 32, by omega⟩ ⟨k.val % 32, by omega⟩) * s (ix2 n ⟨k.val / 32, by omega⟩) : EReal) := by
  unfold timesG
  rw [ungroup hK]
  show (v _ * _ : EReal) = _
  rw [spread]

/-! ## Scales -/

theorem code_word : ∀ s : BitVec 8, (IntOp.subi (BitVec.setWidth 32 s) 127#32).toInt = (s.toNat : ℤ) - 127 := by
  decide +kernel

theorem decode (s : BitVec 8) :
    Idealize.ShloMosaic.Ideal.exp2 (FloatOps.sitofp (F := FI) .f32 (IntOp.subi (BitVec.setWidth 32 s) 127#32)) = Spec.scl s := by
  unfold Spec.scl
  rw [← Spec.exp2_int, ← code_word]
  rfl

/-- The scales of a matrix of scale codes. -/
def decS {S : Shape} (s : IVec S 8) : FVec FI S .bf16 :=
  truncf .bf16 (exp2 (sitofp .f32 (subi (extui 32 s natLt_8_32) (broadcast S 127#32)) : FVec FI S .f32)) bitsLt_bf16_f32

theorem decS_apply {S : Shape} (s : IVec S 8) (i : S.Idx) : decS s i = Spec.scl (s i) := decode (s i)

/-! ## Operands -/

theorem pay6_eq (w : Vec FI S448x4096 .fp8e4m3) (ws : Vec FI S448x128 .i8) :
    k0_pay6 w ws = timesG (shapeCast S448x128x32 (extf .bf16 (w : FVec FI S448x4096 .fp8e4m3) bitsLt_fp8e4m3_bf16) shapeCasts_S448x4096_S448x128x32) (decS ws) shapeCasts_S448x128_S448x128x1 broadcasts_S448x128x1_S448x128x32 shapeCasts_S448x128x32_S448x4096 := rfl

theorem pay6_apply (w : Vec FI S448x4096 .fp8e4m3) (ws : Vec FI S448x128 .i8) (o : Fin 448) (k : Fin 4096) :
    k0_pay6 w ws (ix2 o k) = Spec.wN w ws o k := by
  rw [pay6_eq, timesG_apply rfl, group rfl, decS_apply]
  unfold Spec.wN
  congr 1
  show w _ = w _
  congr 2
  exact Fin.ext (Nat.div_add_mod _ _)

/-- The decoded input, tokens in one list. -/
def xw (x : Vec FI S2x896x4096 .fp8e4m3) (xs : Vec FI S2x896x128 .i8) : FVec FI S1792x4096 .bf16 :=
  timesG (shapeCast S1792x128x32 (extf .bf16 (x : FVec FI S2x896x4096 .fp8e4m3) bitsLt_fp8e4m3_bf16) shapeCasts_S2x896x4096_S1792x128x32) (shapeCast S1792x128 (decS xs) shapeCasts_S2x896x128_S1792x128) shapeCasts_S1792x128_S1792x128x1 broadcasts_S1792x128x1_S1792x128x32 shapeCasts_S1792x128x32_S1792x4096

theorem xw_apply (x : Vec FI S2x896x4096 .fp8e4m3) (xs : Vec FI S2x896x128 .i8) (n : Fin 1792) (k : Fin 4096) :
    xw x xs (ix2 n k) = Spec.xN x xs n k := by
  unfold xw
  rw [timesG_apply rfl, group3]
  have e := Spec.flat3 (decS xs) shapeCasts_S2x896x128_S1792x128 n ⟨k.val / 32, by omega⟩
  rw [decS_apply] at e
  refine (congrArg _ e).trans ?_
  unfold Spec.xN
  congr 1
  show x _ = x _
  congr 2
  exact Fin.ext (Nat.div_add_mod _ _)

/-! ## The latent -/

/-- The product of tokens and weight rows. -/
def prodC (a : FVec FI S1792x4096 .bf16) (b : FVec FI S448x4096 .bf16) : FVec FI S1792x384 .f32 :=
  extf .f32 (truncf .bf16 (matmul dot_S1792x4096_S384x4096_S1792x384_1_1_0_0_n_n none a (extractStridedSlice S384x4096 ![0, 0] b slices_S448x4096_o0_0_S384x4096) (constant S1792x384 .f32 0x00000000#32) : FVec FI S1792x384 .f32) bitsLt_bf16_f32 : FVec FI S1792x384 .bf16) bitsLt_bf16_f32

theorem pay7_eq (w : Vec FI S448x4096 .fp8e4m3) (ws : Vec FI S448x128 .i8) (x : Vec FI S2x896x4096 .fp8e4m3) (xs : Vec FI S2x896x128 .i8) :
    k0_pay7 w ws x xs = prodC (xw x xs) (k0_pay6 w ws) := rfl

theorem prodC_apply (a : FVec FI S1792x4096 .bf16) (b : FVec FI S448x4096 .bf16) (n : Fin 1792) (o : Fin 384) :
    prodC a b (ix2 n o) = ∑ k : Fin 4096, a (ix2 n k) * b (ix2 ⟨o.val, by omega⟩ k) := by
  pointwise [prodC]

theorem pay7_apply (w : Vec FI S448x4096 .fp8e4m3) (ws : Vec FI S448x128 .i8) (x : Vec FI S2x896x4096 .fp8e4m3) (xs : Vec FI S2x896x128 .i8)
    (n : Fin 1792) (o : Fin 384) : k0_pay7 w ws x xs (ix2 n o) = Spec.cN x xs w ws n o := by
  rw [pay7_eq, prodC_apply]
  unfold Spec.cN
  refine Finset.sum_congr rfl fun k _ => ?_
  rw [xw_apply, pay6_apply, mul_comm]

theorem pay8_apply (dc : Vec FI S2x896x384 .bf16) (n : Fin 1792) (o : Fin 384) :
    k0_pay8 dc (ix2 n o) = Spec.dcN dc n o := Spec.flat3 dc shapeCasts_S2x896x384_S1792x384 n o

/-! ## The latent's gradient -/

/-- The mean square of a token's latent. -/
def msq (c : FVec FI S1792x384 .f32) : FVec FI S1792x1 .f32 :=
  divf (shapeCast S1792x1 (multiReduction .add [1] S1792 (mulf c c) 0x00000000#32 reduces_S1792x384_S1792 (.inl rfl) rfl : FVec FI S1792 .f32) shapeCasts_S1792_S1792x1) (broadcast S1792x1 (Scalar.ofBits .f32 0x43C00000#32 : Idealize.ShloMosaic.Ideal .f32))

theorem pay9_eq (w : Vec FI S448x4096 .fp8e4m3) (ws : Vec FI S448x128 .i8) (x : Vec FI S2x896x4096 .fp8e4m3) (xs : Vec FI S2x896x128 .i8) :
    k0_pay9 w ws x xs = msq (k0_pay7 w ws x xs) := rfl

theorem pay12_apply (c d : FVec FI S1792x384 .f32) (g : Vec FI S1x384 .f32) (n : Fin 1792) (o : Fin 384) :
    k0_pay12 c d (msq c) (Scalar.ofBits .f32 0x358637BD#32) g (ix2 n o)
      = Spec.dcS (fun k => c (ix2 n k)) (fun k => d (ix2 n k)) (fun k => g (ix2 0 k)) o := by
  pointwise [k0_pay12, k0_pay10, msq]
  rfl

/-- What a token adds to the gradient of the gain. -/
def dgT (c d : FVec FI S1792x384 .f32) : FVec FI S1792x384 .f32 :=
  mulf (mulf d c) (broadcastTo S1792x384 (k0_pay10 (msq c) (Scalar.ofBits .f32 0x358637BD#32)) broadcasts_S1792x1_S1792x384)

theorem dgT_apply (c d : FVec FI S1792x384 .f32) (n : Fin 1792) (o : Fin 384) :
    dgT c d (ix2 n o) = Spec.dgS (fun k => c (ix2 n k)) (fun k => d (ix2 n k)) o := by
  pointwise [dgT, k0_pay10, msq]
  rfl

theorem pay11_eq (c d : FVec FI S1792x384 .f32) :
    k0_pay11 c d (msq c) (Scalar.ofBits .f32 0x358637BD#32)
      = multiReduction .add [2] S2x7x384 (shapeCast S2x7x128x384 (dgT c d) shapeCasts_S1792x384_S2x7x128x384) 0x00000000#32 reduces_S2x7x128x384_S2x7x384 (.inl rfl) rfl := rfl

theorem sum4 (X : FVec FI S2x7x128x384 .f32) (b : Fin 2) (r : Fin 7) (o : Fin 384) :
    (multiReduction .add [2] S2x7x384 X 0x00000000#32 reduces_S2x7x128x384_S2x7x384 (.inl rfl) rfl : FVec FI S2x7x384 .f32) (ix3 b r o)
      = ∑ l : Fin 128, X (ix4 b r l o) := by
  pointwise []

theorem pay11_apply (c d : FVec FI S1792x384 .f32) (b : Fin 2) (r : Fin 7) (o : Fin 384) :
    k0_pay11 c d (msq c) (Scalar.ofBits .f32 0x358637BD#32) (ix3 b r o)
      = ∑ l : Fin 128, Spec.dgS (fun k => c (ix2 ⟨128 * (7 * b.val + r.val) + l.val, by omega⟩ k)) (fun k => d (ix2 ⟨128 * (7 * b.val + r.val) + l.val, by omega⟩ k)) o := by
  rw [pay11_eq, sum4]
  refine Finset.sum_congr rfl fun l _ => ?_
  rw [runs4, dgT_apply]

end Cert.ReferenceIdeal.Hand
-- ==== Proof.ReferenceValue.Quant.lean ====
/-
  The reference's rotary gradient, its row to be quantised, the codes, the scales and the gradient of the input,
  element by element.
-/
module

public import proofs.«01_k».proof.Proof.ReferenceValue.Rows

@[expose] public section

set_option maxRecDepth 16384

noncomputable section

namespace Cert.ReferenceIdeal.Hand

open Cert.ReferenceIdeal Cert.ReferenceIdeal.Gen
open Idealize.ShloMosaic Idealize.ShloMosaic.TcCoe

local notation "FI" => Idealize.ShloMosaic.Ideal

/-! ## The rotary part -/

/-- Whether a column is even. -/
def evenV : IVec S1792x64 1 :=
  let v82 : BitVec 32 := Scalar.select (Scalar.cmpi .eq 2#32 0#32) 1#32 2#32
  have v84 : IVec S1792x64 32 := remsi (iota .tc S1792x64 32 [1] iota_S1792x64_d1_w32) (broadcast S1792x64 v82)
  have v86 : IVec S1792x64 1 := cmpi .ne v84 (broadcast S1792x64 0#32)
  have v88 : IVec S1792x64 1 := cmpi .slt v84 (broadcast S1792x64 0#32)
  have v91 : IVec S1792x64 1 := broadcastTo S1792x64 (broadcast S1792x64 (Scalar.cmpi .slt v82 0#32)) broadcasts_S1792x64_S1792x64
  have v93 : IVec S1792x64 1 := andi (xori v88 v91) v86
  have v96 : IVec S1792x64 32 := select v93 (addi v84 (broadcast S1792x64 v82)) v84
  cmpi .eq v96 (broadcast S1792x64 0#32)

theorem evenV_row (n : Fin 1792) (j : Fin 64) : evenV (ix2 n j) = evenV (ix2 0 j) := rfl

theorem evenV_zero : ∀ j : Fin 64, evenV (ix2 0 j) = if j.val % 2 = 0 then 1#1 else 0#1 := by decide +kernel

/-- Columns turned left by one. -/
def turnL (k : FVec FI S1792x64 .f32) : FVec FI S1792x64 .f32 :=
  concatenate S1792x64 1 [⟨S1792x63, extractStridedSlice S1792x63 ![0, 1] k slices_S1792x64_o0_1_S1792x63⟩, ⟨S1792x1, extractStridedSlice S1792x1 ![0, 0] k slices_S1792x64_o0_0_S1792x1⟩] concatenates_S1792x63_S1792x1_S1792x64_d1

/-- Columns turned right by one. -/
def turnR (k : FVec FI S1792x64 .f32) : FVec FI S1792x64 .f32 :=
  concatenate S1792x64 1 [⟨S1792x1, extractStridedSlice S1792x1 ![0, 63] k slices_S1792x64_o0_63_S1792x1⟩, ⟨S1792x63, extractStridedSlice S1792x63 ![0, 0] k slices_S1792x64_o0_0_S1792x63⟩] concatenates_S1792x1_S1792x63_S1792x64_d1

theorem turnL_apply (k : FVec FI S1792x64 .f32) (n : Fin 1792) (j : Fin 64) :
    turnL k (ix2 n j) = k (ix2 n ⟨(j.val + 1) % 64, by omega⟩) := by
  pointwise [turnL]
  split_ifs with h
  · congr 2; apply Fin.ext; show 1 + j.val = (j.val + 1) % 64; omega
  · congr 2; apply Fin.ext; show j.val - 63 = (j.val + 1) % 64; omega
  · exact absurd rfl ‹_›

theorem turnR_apply (k : FVec FI S1792x64 .f32) (n : Fin 1792) (j : Fin 64) :
    turnR k (ix2 n j) = k (ix2 n ⟨(j.val + 63) % 64, by omega⟩) := by
  pointwise [turnR]
  split_ifs with h
  · congr 2; apply Fin.ext; show 63 + j.val = (j.val + 63) % 64; omega
  · congr 2; apply Fin.ext; show j.val - 1 = (j.val + 63) % 64; omega
  · exact absurd rfl ‹_›

/-- The gradient of the rotary part. -/
def rot (c s k : FVec FI S1792x64 .f32) : FVec FI S1792x64 .f32 :=
  have v106 : FVec FI S1792x64 .f32 := mulf (select evenV (turnL k) (turnR k)) s
  addf (mulf k c) (select evenV v106 (subf (broadcast S1792x64 (Scalar.ofBits .f32 0x00000000#32 : Idealize.ShloMosaic.Ideal .f32)) v106))

theorem pay13_apply (pos : Vec FI S2x896 .i32) (f : Vec FI S1x64 .f32) (n : Fin 1792) (j : Fin 64) :
    k0_pay13 pos f (ix2 n j) = (FloatOps.sitofp (F := FI) .f32 (pos (ix2 ⟨n.val / 896, by omega⟩ ⟨n.val % 896, by omega⟩)) * f (ix2 0 j) : EReal) := by
  have e := flatPos (sitofp .f32 pos : FVec FI S2x896 .f32) shapeCasts_S2x896_S1792x1 n
  pointwise [k0_pay13]
  try exact congrArg (· * _) e

theorem pay16_apply (dk : Vec FI S2x896x64 .bf16) (n : Fin 1792) (j : Fin 64) :
    k0_pay16 dk (ix2 n j) = dk (ix3 ⟨n.val / 896, by omega⟩ ⟨n.val % 896, by omega⟩ j) :=
  Spec.flat3 dk shapeCasts_S2x896x64_S1792x64 n j

theorem rot_apply (pos : Vec FI S2x896 .i32) (f : Vec FI S1x64 .f32) (dk : Vec FI S2x896x64 .bf16) (n : Fin 1792) (j : Fin 64) :
    rot (k0_pay14 pos f) (k0_pay15 pos f) (k0_pay16 dk) (ix2 n j)
      = Spec.dkS (FloatOps.sitofp (F := FI) .f32 (pos (ix2 ⟨n.val / 896, by omega⟩ ⟨n.val % 896, by omega⟩)))
          (fun j => dk (ix3 ⟨n.val / 896, by omega⟩ ⟨n.val % 896, by omega⟩ j)) (fun j => f (ix2 0 j)) j := by
  have hc : k0_pay14 pos f (ix2 n j) = Idealize.ShloMosaic.Ideal.cos (k0_pay13 pos f (ix2 n j)) := rfl
  have hs : k0_pay15 pos f (ix2 n j) = Idealize.ShloMosaic.Ideal.sin (k0_pay13 pos f (ix2 n j)) := rfl
  have hz : (Scalar.ofBits .f32 0x00000000#32 : Idealize.ShloMosaic.Ideal .f32) = (0 : EReal) := by
    pointwise []
  show (k0_pay16 dk (ix2 n j) * k0_pay14 pos f (ix2 n j)
      + (if evenV (ix2 n j) = 1#1 then (if evenV (ix2 n j) = 1#1 then turnL (k0_pay16 dk) (ix2 n j) else turnR (k0_pay16 dk) (ix2 n j)) * k0_pay15 pos f (ix2 n j)
        else (Scalar.ofBits .f32 0x00000000#32 : Idealize.ShloMosaic.Ideal .f32) - (if evenV (ix2 n j) = 1#1 then turnL (k0_pay16 dk) (ix2 n j) else turnR (k0_pay16 dk) (ix2 n j)) * k0_pay15 pos f (ix2 n j)) : EReal) = _
  rw [turnL_apply, turnR_apply, hc, hs, pay13_apply, pay16_apply, pay16_apply, pay16_apply, evenV_row, evenV_zero, hz]
  unfold Spec.dkS Spec.mate
  by_cases h : j.val % 2 = 0
  · simp only [if_pos h]
    rfl
  · simp only [if_neg h]
    rfl

/-! ## The row -/

/-- The two parts side by side. -/
def rowV (a : FVec FI S1792x384 .f32) (b : FVec FI S1792x64 .f32) : FVec FI S1792x448 .f32 :=
  concatenate S1792x448 1 [⟨S1792x384, a⟩, ⟨S1792x64, b⟩] concatenates_S1792x384_S1792x64_S1792x448_d1

theorem rowV_apply (a : FVec FI S1792x384 .f32) (b : FVec FI S1792x64 .f32) (n : Fin 1792) (o : Fin 448) :
    rowV a b (ix2 n o) = Spec.rowG (fun o => a (ix2 n o)) (fun j => b (ix2 n j)) o := by
  pointwise [rowV]
  unfold Spec.rowG
  rfl

/-- The row in groups. -/
def rowGr (a : FVec FI S1792x384 .f32) (b : FVec FI S1792x64 .f32) : FVec FI S1792x14x32 .f32 :=
  shapeCast S1792x14x32 (rowV a b) shapeCasts_S1792x448_S1792x14x32

theorem pay17_eq (a : FVec FI S1792x384 .f32) (c s k : FVec FI S1792x64 .f32) :
    k0_pay17 a c s k (iota .tc S1792x64 32 [1] iota_S1792x64_d1_w32) 2#32 (Scalar.cmpi .eq 2#32 0#32) 1#32 = rowGr a (rot c s k) := rfl

/-- The row of token `n`. -/
def rowT (a : FVec FI S1792x384 .f32) (b : FVec FI S1792x64 .f32) (n : Fin 1792) : Fin 448 → EReal :=
  Spec.rowG (fun o => a (ix2 n o)) (fun j => b (ix2 n j))

theorem rowGr_apply (a : FVec FI S1792x384 .f32) (b : FVec FI S1792x64 .f32) (n : Fin 1792) (m : Fin 14) (y : Fin 32) :
    rowGr a b (ix3 n m y) = Spec.grp (rowT a b n) m y := by
  unfold rowGr
  rw [group rfl, rowV_apply]
  rfl

/-! ## Codes and scales -/

/-- The largest magnitude of each group. -/
def amaxV (g : FVec FI S1792x14x32 .f32) : FVec FI S1792x14 .f32 :=
  multiReduction .maximumf [2] S1792x14 (absf g) 0xFF800000#32 reduces_S1792x14x32_S1792x14 (.inl rfl) rfl

theorem amaxV_apply (g : FVec FI S1792x14x32 .f32) (n : Fin 1792) (m : Fin 14) :
    amaxV g (ix2 n m) = Spec.amax (fun y => g (ix3 n m y)) := by
  pointwise [amaxV]
  rfl

/-- The powers counted. -/
def powV : FVec FI S1792x14x239 .f32 :=
  exp2 (sitofp .f32 (addi (subi (iota .tc S1792x14x239 32 [2] iota_S1792x14x239_d2_w32) (broadcast S1792x14x239 127#32)) (broadcast S1792x14x239 1#32)) : FVec FI S1792x14x239 .f32)

theorem pow_word : ∀ k : Fin 239, (IntOp.addi (IntOp.subi (BitVec.ofNat 32 k.val) 127#32) 1#32).toInt = (k.val : ℤ) - 126 := by
  decide +kernel

theorem powV_apply (n : Fin 1792) (m : Fin 14) (k : Fin 239) : powV (ix3 n m k) = Spec.p2 ((k.val : ℤ) - 126) := by
  rw [← Spec.exp2_int, ← pow_word]
  pointwise [powV]
  rfl

/-- How many powers are at most `v`. -/
def cntV (v : FVec FI S1792x14 .f32) (p : FVec FI S1792x14x239 .f32) : IVec S1792x14 32 :=
  multiReductionI .add [2] S1792x14 (extui 32 (cmpf .oge (broadcastTo S1792x14x239 (shapeCast S1792x14x1 v shapeCasts_S1792x14_S1792x14x1) broadcasts_S1792x14x1_S1792x14x239) p) natLt_1_32) 0#32 reduces_S1792x14x239_S1792x14 rfl

theorem cntV_fold (v : FVec FI S1792x14 .f32) (p : FVec FI S1792x14x239 .f32) (n : Fin 1792) (m : Fin 14) :
    cntV v p (ix2 n m) = Finset.fold IntOp.addi (0#32) (fun k : Fin 239 => BitVec.setWidth 32 (FloatOps.cmpf (F := FI) (φ := .f32) .oge (v (ix2 n m)) (p (ix3 n m k)))) Finset.univ := by
  pointwise [cntV]

theorem cntV_apply (v : FVec FI S1792x14 .f32) (n : Fin 1792) (m : Fin 14) :
    cntV v powV (ix2 n m) = BitVec.ofNat 32 (Spec.cnt (v (ix2 n m))) := by
  rw [cntV_fold]
  unfold Spec.cnt
  classical
  rw [← Spec.count_word]
  congr 1
  funext k
  rw [powV_apply]
  show BitVec.setWidth 32 (Idealize.ShloMosaic.Ideal.cmp .oge (v (ix2 n m)) (Spec.p2 ((k.val : ℤ) - 126))) = _
  unfold Idealize.ShloMosaic.Ideal.cmp
  by_cases h : Spec.p2 ((k.val : ℤ) - 126) ≤ v (ix2 n m)
  · simp [h]
  · simp [h]

/-- Each group's exponent. -/
theorem expV_apply (a : FVec FI S1792x14 .f32) (n : Fin 1792) (m : Fin 14) :
    k0_pay1 a (cntV (mulf a (broadcast S1792x14 (Scalar.ofBits .f32 0x37924925#32 : Idealize.ShloMosaic.Ideal .f32))) powV) k0_pay20 (ix2 n m)
      = BitVec.ofInt 32 (Spec.eI (a (ix2 n m) * Spec.cInv)) := by
  have hc := cntV_apply (mulf a (broadcast S1792x14 (Idealize.ShloMosaic.Ideal.ofBits .f32 0x37924925#32 : Idealize.ShloMosaic.Ideal .f32))) n m
  rw [← Spec.exp_word]
  pointwise [k0_pay1, k0_pay20]
  rw [hc]
  simp only [Spec.mul_cInv_eq_zero]
  rfl

/-- The exponents of the groups of `g`. -/
def expG (g : FVec FI S1792x14x32 .f32) : IVec S1792x14 32 :=
  cntV (mulf (amaxV g) (broadcast S1792x14 (Scalar.ofBits .f32 0x37924925#32 : Idealize.ShloMosaic.Ideal .f32))) powV

theorem expG_apply (g : FVec FI S1792x14x32 .f32) (n : Fin 1792) (m : Fin 14) :
    k0_pay1 (amaxV g) (expG g) k0_pay20 (ix2 n m) = BitVec.ofInt 32 (Spec.eG fun y => g (ix3 n m y)) := by
  unfold expG Spec.eG
  rw [expV_apply, amaxV_apply]

theorem neg_int : ∀ n : Fin 240, (IntOp.subi 0#32 (BitVec.ofInt 32 ((n.val : ℤ) - 126))).toInt = -((n.val : ℤ) - 126) := by
  decide +kernel

theorem trunc_word : ∀ n : Fin 240, BitVec.setWidth 8 (IntOp.addi (BitVec.ofInt 32 ((n.val : ℤ) - 126)) 127#32)
    = BitVec.ofInt 8 (((n.val : ℤ) - 126) + 127) := by decide +kernel

theorem code_val : ∀ n : Fin 240, ((BitVec.ofInt 8 (((n.val : ℤ) - 126) + 127)).toNat : ℤ) - 127 = (n.val : ℤ) - 126 := by
  decide +kernel

theorem exists_exp (e : ℤ) (h1 : -126 ≤ e) (h2 : e ≤ 113) : ∃ n : Fin 240, e = (n.val : ℤ) - 126 :=
  ⟨⟨(e + 126).toNat, by omega⟩, by simp only []; omega⟩

theorem scale_apply (g : FVec FI S1792x14x32 .f32) (n : Fin 1792) (m : Fin 14) :
    k0_pay3 (amaxV g) (expG g) k0_pay20 (ix2 n m) = Spec.sG fun y => g (ix3 n m y) := by
  obtain ⟨t, ht⟩ := exists_exp _ (Spec.eG_bounds fun y => g (ix3 n m y)).1 (Spec.eG_bounds fun y => g (ix3 n m y)).2
  show BitVec.setWidth 8 (IntOp.addi (k0_pay1 (amaxV g) (expG g) k0_pay20 (ix2 n m)) 127#32) = _
  rw [expG_apply]
  unfold Spec.sG
  rw [ht, trunc_word]

/-- The factor that takes a group to its codes. -/
def shrinkV (e : IVec S1792x14 32) : FVec FI S1792x14 .f32 :=
  exp2 (sitofp .f32 (subi (broadcast S1792x14 0#32) e) : FVec FI S1792x14 .f32)

theorem shrinkV_apply (g : FVec FI S1792x14x32 .f32) (n : Fin 1792) (m : Fin 14) :
    shrinkV (k0_pay1 (amaxV g) (expG g) k0_pay20) (ix2 n m) = Spec.p2 (-(Spec.eG fun y => g (ix3 n m y))) := by
  obtain ⟨t, ht⟩ := exists_exp _ (Spec.eG_bounds fun y => g (ix3 n m y)).1 (Spec.eG_bounds fun y => g (ix3 n m y)).2
  have h : shrinkV (k0_pay1 (amaxV g) (expG g) k0_pay20) (ix2 n m)
      = Idealize.ShloMosaic.Ideal.exp2 (((IntOp.subi 0#32 (k0_pay1 (amaxV g) (expG g) k0_pay20 (ix2 n m))).toInt : ℝ) : EReal) := rfl
  rw [h, expG_apply, ht, neg_int, Spec.exp2_int]

/-- The codes from the factors. -/
theorem code_apply (g : FVec FI S1792x14x32 .f32) (n : Fin 1792) (m : Fin 14) (y : Fin 32) :
    k0_pay2 g (amaxV g) (expG g) k0_pay20 (ix3 n m y) = Spec.qG (fun y => g (ix3 n m y)) y := by
  have hs := spread (shrinkV (k0_pay1 (amaxV g) (expG g) k0_pay20)) shapeCasts_S1792x14_S1792x14x1 broadcasts_S1792x14x1_S1792x14x32 n m y
  rw [shrinkV_apply] at hs
  unfold Spec.qG
  rw [← hs]
  rfl

theorem codes_apply (g : FVec FI S1792x14x32 .f32) (n : Fin 1792) (o : Fin 448) :
    k0_pay4 g (amaxV g) (expG g) k0_pay20 (ix2 n o)
      = Spec.qG (fun y => g (ix3 n ⟨o.val / 32, by omega⟩ y)) ⟨o.val % 32, by omega⟩ := by
  have h := ungroup (N := 1792) (M := 14) (K := 448) rfl (k0_pay2 g (amaxV g) (expG g) k0_pay20) shapeCasts_S1792x14x32_S1792x448 n o
  rw [code_apply] at h
  exact h

/-! ## The gradient of the input -/

/-- The values of the codes. -/
def valV (g : FVec FI S1792x14x32 .f32) : FVec FI S1792x448 .bf16 :=
  timesG (extf .bf16 (k0_pay2 g (amaxV g) (expG g) k0_pay20) bitsLt_fp8e5m2_bf16) (decS (k0_pay3 (amaxV g) (expG g) k0_pay20)) shapeCasts_S1792x14_S1792x14x1 broadcasts_S1792x14x1_S1792x14x32 shapeCasts_S1792x14x32_S1792x448

theorem valV_apply (g : FVec FI S1792x14x32 .f32) (n : Fin 1792) (o : Fin 448) :
    valV g (ix2 n o) = Spec.vG (fun y => g (ix3 n ⟨o.val / 32, by omega⟩ y)) ⟨o.val % 32, by omega⟩ := by
  unfold valV
  rw [timesG_apply rfl, decS_apply, scale_apply]
  refine (congrArg (· * _) (code_apply g n ⟨o.val / 32, by omega⟩ ⟨o.val % 32, by omega⟩)).trans ?_
  unfold Spec.vG
  congr 1
  obtain ⟨t, ht⟩ := exists_exp _ (Spec.eG_bounds fun y => g (ix3 n ⟨o.val / 32, by omega⟩ y)).1 (Spec.eG_bounds fun y => g (ix3 n ⟨o.val / 32, by omega⟩ y)).2
  unfold Spec.scl Spec.sG
  rw [ht, code_val]

/-- The product of the values and the weights. -/
def prodX (a : FVec FI S1792x448 .bf16) (b : FVec FI S448x4096 .bf16) : FVec FI S1792x4096 .bf16 :=
  truncf .bf16 (matmul dot_S1792x448_S448x4096_S1792x4096_1_0_0_1_n_n none a b (constant S1792x4096 .f32 0x00000000#32) : FVec FI S1792x4096 .f32) bitsLt_bf16_f32

theorem prodX_apply (a : FVec FI S1792x448 .bf16) (b : FVec FI S448x4096 .bf16) (n : Fin 1792) (k : Fin 4096) :
    prodX a b (ix2 n k) = ∑ o : Fin 448, a (ix2 n o) * b (ix2 o k) := by
  pointwise [prodX]

theorem pay5_eq (w : FVec FI S448x4096 .bf16) (g : FVec FI S1792x14x32 .f32) :
    k0_pay5 w g (amaxV g) (expG g) k0_pay20 = prodX (valV g) w := rfl

end Cert.ReferenceIdeal.Hand
-- ==== Proof.ReferenceValue.Arrays.lean ====
/-
  The reference's four arrays in full: what its body leaves in each output block, the blocks it reads, and what a run
  ends with.
-/
module

public import proofs.«01_k».proof.Proof.ReferenceValue.Quant
public import proofs.«01_k».proof.Proof.Gen.ReferenceIdeal.Frame

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.Sem
open Idealize.ShloMosaic.Pipeline (Dat Cfg Window)

local notation "FI" => Idealize.ShloMosaic.Ideal

/-! ## The body -/

section
variable (x0 : Vec FI S2x896x4096 .fp8e4m3) (x1 : Vec FI S2x896x128 .i8) (x2 : Vec FI S448x4096 .fp8e4m3) (x3 : Vec FI S448x128 .i8)
  (x4 : Vec FI S1x384 .f32) (x5 : Vec FI S2x896 .i32) (x6 : Vec FI S2x896x384 .bf16) (x7 : Vec FI S2x896x64 .bf16) (x8 : Vec FI S1x64 .f32)

/-- The latent's gradient. -/
def dcA : FVec FI S1792x384 .f32 :=
  k0_pay12 (k0_pay7 x2 x3 x0 x1) (k0_pay8 x6) (msq (k0_pay7 x2 x3 x0 x1)) (Scalar.ofBits .f32 0x358637BD#32) x4

/-- The rotary gradient. -/
def rotA : FVec FI S1792x64 .f32 := rot (k0_pay14 x5 x8) (k0_pay15 x5 x8) (k0_pay16 x7)

/-- The row in groups. -/
def gA : FVec FI S1792x14x32 .f32 := rowGr (dcA x0 x1 x2 x3 x4 x6) (rotA x5 x7 x8)

theorem ld0 : View.ld x2 r0_0 = x2 :=
  View.ld_unit_zero (S := S448x4096) (by funext a; match a with | ⟨0, _⟩ => rfl | ⟨1, _⟩ => rfl) _ x2
theorem ld1 : View.ld x3 r0_1 = x3 :=
  View.ld_unit_zero (S := S448x128) (by funext a; match a with | ⟨0, _⟩ => rfl | ⟨1, _⟩ => rfl) _ x3
theorem ld2 : View.ld x0 r0_2 = x0 :=
  View.ld_unit_zero (S := S2x896x4096) (by funext a; match a with | ⟨0, _⟩ => rfl | ⟨1, _⟩ => rfl | ⟨2, _⟩ => rfl) _ x0
theorem ld3 : View.ld x1 r0_3 = x1 :=
  View.ld_unit_zero (S := S2x896x128) (by funext a; match a with | ⟨0, _⟩ => rfl | ⟨1, _⟩ => rfl | ⟨2, _⟩ => rfl) _ x1
theorem ld4 : View.ld x6 r0_4 = x6 :=
  View.ld_unit_zero (S := S2x896x384) (by funext a; match a with | ⟨0, _⟩ => rfl | ⟨1, _⟩ => rfl | ⟨2, _⟩ => rfl) _ x6
theorem ld6 : View.ld x4 r0_6 = x4 :=
  View.ld_unit_zero (S := S1x384) (by funext a; match a with | ⟨0, _⟩ => rfl | ⟨1, _⟩ => rfl) _ x4
theorem ld7 : View.ld x5 r0_7 = x5 :=
  View.ld_unit_zero (S := S2x896) (by funext a; match a with | ⟨0, _⟩ => rfl | ⟨1, _⟩ => rfl) _ x5
theorem ld8 : View.ld x8 r0_8 = x8 :=
  View.ld_unit_zero (S := S1x64) (by funext a; match a with | ⟨0, _⟩ => rfl | ⟨1, _⟩ => rfl) _ x8
theorem ld9 : View.ld x7 r0_9 = x7 :=
  View.ld_unit_zero (S := S2x896x64) (by funext a; match a with | ⟨0, _⟩ => rfl | ⟨1, _⟩ => rfl | ⟨2, _⟩ => rfl) _ x7

theorem v21 : k0_pay21 x0 x1 x2 x3 x4 x5 x6 x7 x8 = k0_pay7 x2 x3 x0 x1 := by
  unfold k0_pay21; rw [ld0, ld1, ld2, ld3]
theorem v22 : k0_pay22 x0 x1 x2 x3 x4 x5 x6 x7 x8 = k0_pay8 x6 := by
  unfold k0_pay22; rw [ld4]
theorem v23 : k0_pay23 x0 x1 x2 x3 x4 x5 x6 x7 x8 = msq (k0_pay7 x2 x3 x0 x1) := by
  unfold k0_pay23; rw [ld0, ld1, ld2, ld3, pay9_eq]
theorem v25 : k0_pay25 x0 x1 x2 x3 x4 x5 x6 x7 x8 = dcA x0 x1 x2 x3 x4 x6 := by
  unfold k0_pay25 dcA; rw [v21, v22, v23, ld6]
theorem v26 : k0_pay26 x0 x1 x2 x3 x4 x5 x6 x7 x8 = k0_pay14 x5 x8 := by
  unfold k0_pay26; rw [ld7, ld8]
theorem v27 : k0_pay27 x0 x1 x2 x3 x4 x5 x6 x7 x8 = k0_pay15 x5 x8 := by
  unfold k0_pay27; rw [ld7, ld8]
theorem v28 : k0_pay28 x0 x1 x2 x3 x4 x5 x6 x7 x8 = k0_pay16 x7 := by
  unfold k0_pay28; rw [ld9]
theorem v29 : k0_pay29 x0 x1 x2 x3 x4 x5 x6 x7 x8 = gA x0 x1 x2 x3 x4 x5 x6 x7 x8 := by
  unfold k0_pay29 gA rotA; rw [v25, v26, v27, v28]; exact pay17_eq _ _ _ _
theorem v30 : k0_pay30 x0 x1 x2 x3 x4 x5 x6 x7 x8 = amaxV (gA x0 x1 x2 x3 x4 x5 x6 x7 x8) := by
  rw [← v29]; rfl
theorem v31 : k0_pay31 x0 x1 x2 x3 x4 x5 x6 x7 x8 = expG (gA x0 x1 x2 x3 x4 x5 x6 x7 x8) := by
  rw [← v29]; rfl
theorem v32 : k0_pay32 x0 x1 x2 x3 x4 x5 x6 x7 x8 = k0_pay20 := rfl

theorem canon_one {S : Shape} {e : EltTy} (r : Rect S) (hr : r.shape = S) (P : r.shape.Idx → Elt FI e) (G : S.Idx → Elt FI e)
    (h : ∀ z, P z = G (r.emb z)) (hc : ∀ y : S.Idx, ∃ pc ∈ ([⟨r, P⟩] : List (View.Piece (Elt FI) S e)), y ∈ pc.1.set) :
    View.canon [⟨r, P⟩] = G := by
  funext y
  refine View.canon_apply_of_pieces G _ (fun p hp z => ?_) y (hc y)
  obtain rfl := List.mem_singleton.1 hp
  exact h z

theorem out9_eq : out0_9 x0 x1 x2 x3 x4 x5 x6 x7 x8 = prodX (valV (gA x0 x1 x2 x3 x4 x5 x6 x7 x8)) (k0_pay6 x2 x3) := by
  unfold out0_9
  rw [v29, v30, v31, v32, ld0, ld1, pay5_eq]
  refine canon_one r0_12 rfl _ _ (fun z => congrArg _ (funext fun a => Fin.ext ?_)) (cover0_9 _)
  match a with
    | ⟨0, _⟩ => show (z 0).val = 0 + 1 * (z 0).val; omega
    | ⟨1, _⟩ => show (z 1).val = 0 + 1 * (z 1).val; omega

theorem out10_eq : out0_10 x0 x1 x2 x3 x4 x5 x6 x7 x8 = k0_pay11 (k0_pay7 x2 x3 x0 x1) (k0_pay8 x6) (msq (k0_pay7 x2 x3 x0 x1)) (Scalar.ofBits .f32 0x358637BD#32) := by
  unfold out0_10
  rw [v21, v22, v23]
  refine canon_one r0_5 rfl _ _ (fun z => congrArg _ (funext fun a => Fin.ext ?_)) (cover0_10 _)
  match a with
    | ⟨0, _⟩ => show (z 0).val = 0 + 1 * (z 0).val; omega
    | ⟨1, _⟩ => show (z 1).val = 0 + 1 * (z 1).val; omega
    | ⟨2, _⟩ => show (z 2).val = 0 + 1 * (z 2).val; omega

theorem out11_eq : out0_11 x0 x1 x2 x3 x4 x5 x6 x7 x8 = k0_pay4 (gA x0 x1 x2 x3 x4 x5 x6 x7 x8) (amaxV (gA x0 x1 x2 x3 x4 x5 x6 x7 x8)) (expG (gA x0 x1 x2 x3 x4 x5 x6 x7 x8)) k0_pay20 := by
  unfold out0_11
  rw [v29, v30, v31, v32]
  refine canon_one r0_10 rfl _ _ (fun z => congrArg _ (funext fun a => Fin.ext ?_)) (cover0_11 _)
  match a with
    | ⟨0, _⟩ => show (z 0).val = 0 + 1 * (z 0).val; omega
    | ⟨1, _⟩ => show (z 1).val = 0 + 1 * (z 1).val; omega

theorem out12_eq : out0_12 x0 x1 x2 x3 x4 x5 x6 x7 x8 = k0_pay3 (amaxV (gA x0 x1 x2 x3 x4 x5 x6 x7 x8)) (expG (gA x0 x1 x2 x3 x4 x5 x6 x7 x8)) k0_pay20 := by
  unfold out0_12
  rw [v30, v31, v32]
  refine canon_one r0_11 rfl _ _ (fun z => congrArg _ (funext fun a => Fin.ext ?_)) (cover0_12 _)
  match a with
    | ⟨0, _⟩ => show (z 0).val = 0 + 1 * (z 0).val; omega
    | ⟨1, _⟩ => show (z 1).val = 0 + 1 * (z 1).val; omega

/-! ## The values -/

variable (g : Vec FI S384 .f32) (f : Fin 64 → EReal) (hg : ∀ o, x4 (ix2 0 o) = g (ix1 o)) (hf : ∀ j, x8 (ix2 0 j) = f j)

include hg hf in
theorem gA_row (n : Fin 1792) (k : Fin 14) :
    (fun y => gA x0 x1 x2 x3 x4 x5 x6 x7 x8 (ix3 n k y)) = Spec.grp (Spec.rowN x0 x1 x2 x3 g x5 x6 x7 f n) k := by
  have e : rowT (dcA x0 x1 x2 x3 x4 x6) (rotA x5 x7 x8) n = Spec.rowN x0 x1 x2 x3 g x5 x6 x7 f n := by
    unfold rowT Spec.rowN
    congr 1
    · funext o
      unfold dcA
      rw [pay12_apply]
      congr 1
      · funext k; rw [pay7_apply]
      · funext k; rw [pay8_apply]
      · funext k; exact hg k
    · funext j
      unfold rotA
      rw [rot_apply]
      congr 1
      funext j; exact hf j
  funext y
  unfold gA
  rw [rowGr_apply, e]

theorem ix2_eta {N K : ℕ} (y : (⟨2, ![N, K]⟩ : Shape).Idx) : y = ix2 ⟨(y 0).val, (y 0).isLt⟩ ⟨(y 1).val, (y 1).isLt⟩ := by
  funext a; match a with | ⟨0, _⟩ => rfl | ⟨1, _⟩ => rfl

theorem ix3_eta {N K M : ℕ} (y : (⟨3, ![N, K, M]⟩ : Shape).Idx) : y = ix3 ⟨(y 0).val, (y 0).isLt⟩ ⟨(y 1).val, (y 1).isLt⟩ ⟨(y 2).val, (y 2).isLt⟩ := by
  funext a; match a with | ⟨0, _⟩ => rfl | ⟨1, _⟩ => rfl | ⟨2, _⟩ => rfl

include hg hf in
theorem out9_val : out0_9 x0 x1 x2 x3 x4 x5 x6 x7 x8 = Spec.dxN x0 x1 x2 x3 g x5 x6 x7 f := by
  rw [out9_eq]
  funext y
  obtain ⟨n, k, rfl⟩ : ∃ (n : Fin 1792) (k : Fin 4096), y = ix2 n k := ⟨y 0, y 1, ix2_eta y⟩
  rw [prodX_apply]
  show (_ : EReal) = ∑ o, Spec.vS (Spec.rowN x0 x1 x2 x3 g x5 x6 x7 f n) o * Spec.wN x2 x3 o k
  refine Finset.sum_congr rfl fun o _ => ?_
  rw [valV_apply, pay6_apply, gA_row x0 x1 x2 x3 x4 x5 x6 x7 x8 g f hg hf]
  rfl

include hg hf in
theorem out11_val : out0_11 x0 x1 x2 x3 x4 x5 x6 x7 x8 = Spec.codesN x0 x1 x2 x3 g x5 x6 x7 f := by
  rw [out11_eq]
  funext y
  obtain ⟨n, k, rfl⟩ : ∃ (n : Fin 1792) (k : Fin 448), y = ix2 n k := ⟨y 0, y 1, ix2_eta y⟩
  rw [codes_apply, gA_row x0 x1 x2 x3 x4 x5 x6 x7 x8 g f hg hf]
  rfl

include hg hf in
theorem out12_val : out0_12 x0 x1 x2 x3 x4 x5 x6 x7 x8 = Spec.scalesN x0 x1 x2 x3 g x5 x6 x7 f := by
  rw [out12_eq]
  funext y
  obtain ⟨n, k, rfl⟩ : ∃ (n : Fin 1792) (k : Fin 14), y = ix2 n k := ⟨y 0, y 1, ix2_eta y⟩
  rw [scale_apply, gA_row x0 x1 x2 x3 x4 x5 x6 x7 x8 g f hg hf]
  rfl

theorem out10_val : out0_10 x0 x1 x2 x3 x4 x5 x6 x7 x8 = Spec.dgainN x0 x1 x2 x3 x6 := by
  rw [out10_eq]
  funext y
  obtain ⟨b, r, o, rfl⟩ : ∃ (b : Fin 2) (r : Fin 7) (o : Fin 384), y = ix3 b r o := ⟨y 0, y 1, y 2, ix3_eta y⟩
  rw [pay11_apply]
  show (_ : EReal) = ∑ l : Fin 128, Spec.dgS (Spec.cN x0 x1 x2 x3 ⟨128 * (7 * b.val + r.val) + l.val, by omega⟩) (Spec.dcN x6 ⟨128 * (7 * b.val + r.val) + l.val, by omega⟩) o
  refine Finset.sum_congr rfl fun l _ => ?_
  congr 1
  · funext k; rw [pay7_apply]
  · funext k; rw [pay8_apply]

end

/-! ## The arrays a run reads and leaves -/

variable (m : (ℓ : Loc nD τ sig) → Buf (Elt FI) ℓ) (ρ : Dev nD → PrngReg) (c : Dev nD)

theorem blk0 (t : Fin cfg0.N) : (iblk m c 0 t : Vec FI S2x896x4096 .fp8e4m3) = V m c main_arg0 := by
  funext y
  unfold iblk
  rw [View.read_apply]
  show (V m c main_arg0 : Vec FI S2x896x4096 .fp8e4m3) _ = (V m c main_arg0 : Vec FI S2x896x4096 .fp8e4m3) y
  refine congrArg _ (funext fun a => Fin.ext ?_)
  match a with
  | ⟨0, _⟩ => show 0 * S2x896x4096.size 0 + 1 * (y 0).val = (y 0).val; omega
  | ⟨1, _⟩ => show 0 * S2x896x4096.size 1 + 1 * (y 1).val = (y 1).val; omega
  | ⟨2, _⟩ => show 0 * S2x896x4096.size 2 + 1 * (y 2).val = (y 2).val; omega

theorem blk1 (t : Fin cfg0.N) : (iblk m c 1 t : Vec FI S2x896x128 .i8) = V m c main_arg1 := by
  funext y
  unfold iblk
  rw [View.read_apply]
  show (V m c main_arg1 : Vec FI S2x896x128 .i8) _ = (V m c main_arg1 : Vec FI S2x896x128 .i8) y
  refine congrArg _ (funext fun a => Fin.ext ?_)
  match a with
  | ⟨0, _⟩ => show 0 * S2x896x128.size 0 + 1 * (y 0).val = (y 0).val; omega
  | ⟨1, _⟩ => show 0 * S2x896x128.size 1 + 1 * (y 1).val = (y 1).val; omega
  | ⟨2, _⟩ => show 0 * S2x896x128.size 2 + 1 * (y 2).val = (y 2).val; omega

theorem blk2 (t : Fin cfg0.N) : (iblk m c 2 t : Vec FI S448x4096 .fp8e4m3) = V m c main_arg2 := by
  funext y
  unfold iblk
  rw [View.read_apply]
  show (V m c main_arg2 : Vec FI S448x4096 .fp8e4m3) _ = (V m c main_arg2 : Vec FI S448x4096 .fp8e4m3) y
  refine congrArg _ (funext fun a => Fin.ext ?_)
  match a with
  | ⟨0, _⟩ => show 0 * S448x4096.size 0 + 1 * (y 0).val = (y 0).val; omega
  | ⟨1, _⟩ => show 0 * S448x4096.size 1 + 1 * (y 1).val = (y 1).val; omega

theorem blk3 (t : Fin cfg0.N) : (iblk m c 3 t : Vec FI S448x128 .i8) = V m c main_arg3 := by
  funext y
  unfold iblk
  rw [View.read_apply]
  show (V m c main_arg3 : Vec FI S448x128 .i8) _ = (V m c main_arg3 : Vec FI S448x128 .i8) y
  refine congrArg _ (funext fun a => Fin.ext ?_)
  match a with
  | ⟨0, _⟩ => show 0 * S448x128.size 0 + 1 * (y 0).val = (y 0).val; omega
  | ⟨1, _⟩ => show 0 * S448x128.size 1 + 1 * (y 1).val = (y 1).val; omega

theorem blk4 (t : Fin cfg0.N) : (iblk m c 4 t : Vec FI S1x384 .f32) = V m c main_v0 := by
  funext y
  unfold iblk
  rw [View.read_apply]
  show (V m c main_v0 : Vec FI S1x384 .f32) _ = (V m c main_v0 : Vec FI S1x384 .f32) y
  refine congrArg _ (funext fun a => Fin.ext ?_)
  match a with
  | ⟨0, _⟩ => show 0 * S1x384.size 0 + 1 * (y 0).val = (y 0).val; omega
  | ⟨1, _⟩ => show 0 * S1x384.size 1 + 1 * (y 1).val = (y 1).val; omega

theorem blk5 (t : Fin cfg0.N) : (iblk m c 5 t : Vec FI S2x896 .i32) = V m c main_arg5 := by
  funext y
  unfold iblk
  rw [View.read_apply]
  show (V m c main_arg5 : Vec FI S2x896 .i32) _ = (V m c main_arg5 : Vec FI S2x896 .i32) y
  refine congrArg _ (funext fun a => Fin.ext ?_)
  match a with
  | ⟨0, _⟩ => show 0 * S2x896.size 0 + 1 * (y 0).val = (y 0).val; omega
  | ⟨1, _⟩ => show 0 * S2x896.size 1 + 1 * (y 1).val = (y 1).val; omega

theorem blk6 (t : Fin cfg0.N) : (iblk m c 6 t : Vec FI S2x896x384 .bf16) = V m c main_arg6 := by
  funext y
  unfold iblk
  rw [View.read_apply]
  show (V m c main_arg6 : Vec FI S2x896x384 .bf16) _ = (V m c main_arg6 : Vec FI S2x896x384 .bf16) y
  refine congrArg _ (funext fun a => Fin.ext ?_)
  match a with
  | ⟨0, _⟩ => show 0 * S2x896x384.size 0 + 1 * (y 0).val = (y 0).val; omega
  | ⟨1, _⟩ => show 0 * S2x896x384.size 1 + 1 * (y 1).val = (y 1).val; omega
  | ⟨2, _⟩ => show 0 * S2x896x384.size 2 + 1 * (y 2).val = (y 2).val; omega

theorem blk7 (t : Fin cfg0.N) : (iblk m c 7 t : Vec FI S2x896x64 .bf16) = V m c main_arg7 := by
  funext y
  unfold iblk
  rw [View.read_apply]
  show (V m c main_arg7 : Vec FI S2x896x64 .bf16) _ = (V m c main_arg7 : Vec FI S2x896x64 .bf16) y
  refine congrArg _ (funext fun a => Fin.ext ?_)
  match a with
  | ⟨0, _⟩ => show 0 * S2x896x64.size 0 + 1 * (y 0).val = (y 0).val; omega
  | ⟨1, _⟩ => show 0 * S2x896x64.size 1 + 1 * (y 1).val = (y 1).val; omega
  | ⟨2, _⟩ => show 0 * S2x896x64.size 2 + 1 * (y 2).val = (y 2).val; omega

theorem blk8 (t : Fin cfg0.N) : (iblk m c 8 t : Vec FI S1x64 .f32) = V m c main_v1 := by
  funext y
  unfold iblk
  rw [View.read_apply]
  show (V m c main_v1 : Vec FI S1x64 .f32) _ = (V m c main_v1 : Vec FI S1x64 .f32) y
  refine congrArg _ (funext fun a => Fin.ext ?_)
  match a with
  | ⟨0, _⟩ => show 0 * S1x64.size 0 + 1 * (y 0).val = (y 0).val; omega
  | ⟨1, _⟩ => show 0 * S1x64.size 1 + 1 * (y 1).val = (y 1).val; omega

theorem V_gain (o : Fin 384) : (V m c main_v0 : Vec FI S1x384 .f32) (ix2 0 o)
    = (m ((c : Thread nD τ).loc main_arg4) : Vec FI S384 .f32) (ix1 o) := by
  have h : (V m c main_v0 : Vec FI S1x384 .f32) = shapeCast S1x384 (m ((c : Thread nD τ).loc main_arg4) : Vec FI S384 .f32) shapeCasts_S384_S1x384 := by
    show StableHlo.after hostOps0 _ (Proc.devRef .tc main_v0) = _
    after_results
    try rfl
  rw [h]
  exact shapeCast_apply (s := S384) (t := S1x384) _ _ _ _ (by
    rw [Shape.rowMajor_val_one, Shape.rowMajor_val_two]
    show o.val = 0 * 384 + o.val; omega)

/-- The inverse frequencies. -/
def freq (j : Fin 64) : EReal := FloatOps.ofBits (F := FI) .f32 (lit0 j)

theorem V_freq (j : Fin 64) : (V m c main_v1 : Vec FI S1x64 .f32) (ix2 0 j) = freq j := by
  have h : (V m c main_v1 : Vec FI S1x64 .f32)
      = shapeCast S1x64 (fun i : S64.Idx => FloatOps.ofBits (F := FI) .f32 (lit0 (S64.rowMajor i))) shapeCasts_S64_S1x64 := by
    show StableHlo.after hostOps0 _ (Proc.devRef .tc main_v1) = _
    after_results
    try rfl
  rw [h]
  refine (shapeCast_apply (s := S64) (t := S1x64) _ _ _ (ix1 j) (by
    rw [Shape.rowMajor_val_one, Shape.rowMajor_val_two]
    show j.val = 0 * 64 + j.val; omega)).trans ?_
  exact congrArg _ (congrArg lit0 (Fin.ext ((Shape.rowMajor_val_one _).trans rfl)))

/-! The arguments. -/
abbrev a0 : Vec FI S2x896x4096 .fp8e4m3 := m ((c : Thread nD τ).loc main_arg0)
abbrev a1 : Vec FI S2x896x128 .i8 := m ((c : Thread nD τ).loc main_arg1)
abbrev a2 : Vec FI S448x4096 .fp8e4m3 := m ((c : Thread nD τ).loc main_arg2)
abbrev a3 : Vec FI S448x128 .i8 := m ((c : Thread nD τ).loc main_arg3)
abbrev a4 : Vec FI S384 .f32 := m ((c : Thread nD τ).loc main_arg4)
abbrev a5 : Vec FI S2x896 .i32 := m ((c : Thread nD τ).loc main_arg5)
abbrev a6 : Vec FI S2x896x384 .bf16 := m ((c : Thread nD τ).loc main_arg6)
abbrev a7 : Vec FI S2x896x64 .bf16 := m ((c : Thread nD τ).loc main_arg7)

/-- The gradient of the input. -/
def res0 : Vec FI S1792x4096 .bf16 := Spec.dxN (a0 m c) (a1 m c) (a2 m c) (a3 m c) (a4 m c) (a5 m c) (a6 m c) (a7 m c) freq
/-- The gradient of the gain. -/
def res1 : Vec FI S2x7x384 .f32 := Spec.dgainN (a0 m c) (a1 m c) (a2 m c) (a3 m c) (a6 m c)
/-- The codes. -/
def res2 : Vec FI S1792x448 .fp8e5m2 := Spec.codesN (a0 m c) (a1 m c) (a2 m c) (a3 m c) (a4 m c) (a5 m c) (a6 m c) (a7 m c) freq
/-- The scales. -/
def res3 : Vec FI S1792x14 .i8 := Spec.scalesN (a0 m c) (a1 m c) (a2 m c) (a3 m c) (a4 m c) (a5 m c) (a6 m c) (a7 m c) freq

theorem left9 (t : Fin cfg0.N) : (dats m 0 c).after 9 t = res0 m c := by
  rw [after0_9]
  have e : out0_9 (iblk m c 0 t) (iblk m c 1 t) (iblk m c 2 t) (iblk m c 3 t) (iblk m c 4 t) (iblk m c 5 t) (iblk m c 6 t) (iblk m c 7 t) (iblk m c 8 t) = out0_9 (V m c main_arg0 : Vec FI S2x896x4096 .fp8e4m3) (V m c main_arg1 : Vec FI S2x896x128 .i8) (V m c main_arg2 : Vec FI S448x4096 .fp8e4m3) (V m c main_arg3 : Vec FI S448x128 .i8) (V m c main_v0 : Vec FI S1x384 .f32) (V m c main_arg5 : Vec FI S2x896 .i32) (V m c main_arg6 : Vec FI S2x896x384 .bf16) (V m c main_arg7 : Vec FI S2x896x64 .bf16) (V m c main_v1 : Vec FI S1x64 .f32) := by
    rw [blk0, blk1, blk2, blk3, blk4, blk5, blk6, blk7, blk8]
  rw [e, V_main_arg0, V_main_arg1, V_main_arg2, V_main_arg3, V_main_arg5, V_main_arg6, V_main_arg7]
  exact out9_val _ _ _ _ _ _ _ _ _ (a4 m c) freq (V_gain m c) (V_freq m c)

theorem cut9 (t : Fin cfg0.N) : (cfg0.win 9).cut (grid0.coords t) (res0 m c) = ((cfg0.win 9).blk t).view.read (Elt FI) (res0 m c) := by
  funext y
  rw [View.read_apply]
  refine congrArg (res0 m c) (funext fun a => Fin.ext ?_)
  match a with
  | ⟨0, _⟩ => show (y 0).val = 0 * S1792x4096.size 0 + 1 * (y 0).val; omega
  | ⟨1, _⟩ => show (y 1).val = 0 * S1792x4096.size 1 + 1 * (y 1).val; omega

theorem mem9 (t : Fin cfg0.N) (i : S1792x4096.Idx) :
    i ∈ ((cfg0.win 9).blk t).view.set ↔ ∀ a, win0_9.index t a * S1792x4096.size a ≤ (i a).val ∧ (i a).val < win0_9.index t a * S1792x4096.size a + S1792x4096.size a := by
  show i ∈ ((View.whole main_v2_0).slice (win0_9.rect t)).set ↔ _
  rw [View.set_slice_whole, Rect.mem_set_unit]
  exact Iff.rfl

theorem covers9 (i : S1792x4096.Idx) : ∃ t : Fin cfg0.N, (cfg0.win 9).flush t = true ∧ i ∈ ((cfg0.win 9).blk t).view.set := by
  refine ⟨⟨0, by decide +kernel⟩, by decide +kernel, ?_⟩
  rw [mem9]
  intro a
  match a with
  | ⟨0, _⟩ => exact ⟨by show 0 * S1792x4096.size 0 ≤ (i 0).val; omega, by have := (i 0).isLt; show (i 0).val < 0 * S1792x4096.size 0 + S1792x4096.size 0; omega⟩
  | ⟨1, _⟩ => exact ⟨by show 0 * S1792x4096.size 1 ≤ (i 1).val; omega, by have := (i 1).isLt; show (i 1).val < 0 * S1792x4096.size 1 + S1792x4096.size 1; omega⟩

theorem left10 (t : Fin cfg0.N) : (dats m 0 c).after 10 t = res1 m c := by
  rw [after0_10]
  have e : out0_10 (iblk m c 0 t) (iblk m c 1 t) (iblk m c 2 t) (iblk m c 3 t) (iblk m c 4 t) (iblk m c 5 t) (iblk m c 6 t) (iblk m c 7 t) (iblk m c 8 t) = out0_10 (V m c main_arg0 : Vec FI S2x896x4096 .fp8e4m3) (V m c main_arg1 : Vec FI S2x896x128 .i8) (V m c main_arg2 : Vec FI S448x4096 .fp8e4m3) (V m c main_arg3 : Vec FI S448x128 .i8) (V m c main_v0 : Vec FI S1x384 .f32) (V m c main_arg5 : Vec FI S2x896 .i32) (V m c main_arg6 : Vec FI S2x896x384 .bf16) (V m c main_arg7 : Vec FI S2x896x64 .bf16) (V m c main_v1 : Vec FI S1x64 .f32) := by
    rw [blk0, blk1, blk2, blk3, blk4, blk5, blk6, blk7, blk8]
  rw [e, V_main_arg0, V_main_arg1, V_main_arg2, V_main_arg3, V_main_arg5, V_main_arg6, V_main_arg7]
  exact out10_val _ _ _ _ _ _ _ _ _

theorem cut10 (t : Fin cfg0.N) : (cfg0.win 10).cut (grid0.coords t) (res1 m c) = ((cfg0.win 10).blk t).view.read (Elt FI) (res1 m c) := by
  funext y
  rw [View.read_apply]
  refine congrArg (res1 m c) (funext fun a => Fin.ext ?_)
  match a with
  | ⟨0, _⟩ => show (y 0).val = 0 * S2x7x384.size 0 + 1 * (y 0).val; omega
  | ⟨1, _⟩ => show (y 1).val = 0 * S2x7x384.size 1 + 1 * (y 1).val; omega
  | ⟨2, _⟩ => show (y 2).val = 0 * S2x7x384.size 2 + 1 * (y 2).val; omega

theorem mem10 (t : Fin cfg0.N) (i : S2x7x384.Idx) :
    i ∈ ((cfg0.win 10).blk t).view.set ↔ ∀ a, win0_10.index t a * S2x7x384.size a ≤ (i a).val ∧ (i a).val < win0_10.index t a * S2x7x384.size a + S2x7x384.size a := by
  show i ∈ ((View.whole main_v2_1).slice (win0_10.rect t)).set ↔ _
  rw [View.set_slice_whole, Rect.mem_set_unit]
  exact Iff.rfl

theorem covers10 (i : S2x7x384.Idx) : ∃ t : Fin cfg0.N, (cfg0.win 10).flush t = true ∧ i ∈ ((cfg0.win 10).blk t).view.set := by
  refine ⟨⟨0, by decide +kernel⟩, by decide +kernel, ?_⟩
  rw [mem10]
  intro a
  match a with
  | ⟨0, _⟩ => exact ⟨by show 0 * S2x7x384.size 0 ≤ (i 0).val; omega, by have := (i 0).isLt; show (i 0).val < 0 * S2x7x384.size 0 + S2x7x384.size 0; omega⟩
  | ⟨1, _⟩ => exact ⟨by show 0 * S2x7x384.size 1 ≤ (i 1).val; omega, by have := (i 1).isLt; show (i 1).val < 0 * S2x7x384.size 1 + S2x7x384.size 1; omega⟩
  | ⟨2, _⟩ => exact ⟨by show 0 * S2x7x384.size 2 ≤ (i 2).val; omega, by have := (i 2).isLt; show (i 2).val < 0 * S2x7x384.size 2 + S2x7x384.size 2; omega⟩

theorem left11 (t : Fin cfg0.N) : (dats m 0 c).after 11 t = res2 m c := by
  rw [after0_11]
  have e : out0_11 (iblk m c 0 t) (iblk m c 1 t) (iblk m c 2 t) (iblk m c 3 t) (iblk m c 4 t) (iblk m c 5 t) (iblk m c 6 t) (iblk m c 7 t) (iblk m c 8 t) = out0_11 (V m c main_arg0 : Vec FI S2x896x4096 .fp8e4m3) (V m c main_arg1 : Vec FI S2x896x128 .i8) (V m c main_arg2 : Vec FI S448x4096 .fp8e4m3) (V m c main_arg3 : Vec FI S448x128 .i8) (V m c main_v0 : Vec FI S1x384 .f32) (V m c main_arg5 : Vec FI S2x896 .i32) (V m c main_arg6 : Vec FI S2x896x384 .bf16) (V m c main_arg7 : Vec FI S2x896x64 .bf16) (V m c main_v1 : Vec FI S1x64 .f32) := by
    rw [blk0, blk1, blk2, blk3, blk4, blk5, blk6, blk7, blk8]
  rw [e, V_main_arg0, V_main_arg1, V_main_arg2, V_main_arg3, V_main_arg5, V_main_arg6, V_main_arg7]
  exact out11_val _ _ _ _ _ _ _ _ _ (a4 m c) freq (V_gain m c) (V_freq m c)

theorem cut11 (t : Fin cfg0.N) : (cfg0.win 11).cut (grid0.coords t) (res2 m c) = ((cfg0.win 11).blk t).view.read (Elt FI) (res2 m c) := by
  funext y
  rw [View.read_apply]
  refine congrArg (res2 m c) (funext fun a => Fin.ext ?_)
  match a with
  | ⟨0, _⟩ => show (y 0).val = 0 * S1792x448.size 0 + 1 * (y 0).val; omega
  | ⟨1, _⟩ => show (y 1).val = 0 * S1792x448.size 1 + 1 * (y 1).val; omega

theorem mem11 (t : Fin cfg0.N) (i : S1792x448.Idx) :
    i ∈ ((cfg0.win 11).blk t).view.set ↔ ∀ a, win0_11.index t a * S1792x448.size a ≤ (i a).val ∧ (i a).val < win0_11.index t a * S1792x448.size a + S1792x448.size a := by
  show i ∈ ((View.whole main_v2_2).slice (win0_11.rect t)).set ↔ _
  rw [View.set_slice_whole, Rect.mem_set_unit]
  exact Iff.rfl

theorem covers11 (i : S1792x448.Idx) : ∃ t : Fin cfg0.N, (cfg0.win 11).flush t = true ∧ i ∈ ((cfg0.win 11).blk t).view.set := by
  refine ⟨⟨0, by decide +kernel⟩, by decide +kernel, ?_⟩
  rw [mem11]
  intro a
  match a with
  | ⟨0, _⟩ => exact ⟨by show 0 * S1792x448.size 0 ≤ (i 0).val; omega, by have := (i 0).isLt; show (i 0).val < 0 * S1792x448.size 0 + S1792x448.size 0; omega⟩
  | ⟨1, _⟩ => exact ⟨by show 0 * S1792x448.size 1 ≤ (i 1).val; omega, by have := (i 1).isLt; show (i 1).val < 0 * S1792x448.size 1 + S1792x448.size 1; omega⟩

theorem left12 (t : Fin cfg0.N) : (dats m 0 c).after 12 t = res3 m c := by
  rw [after0_12]
  have e : out0_12 (iblk m c 0 t) (iblk m c 1 t) (iblk m c 2 t) (iblk m c 3 t) (iblk m c 4 t) (iblk m c 5 t) (iblk m c 6 t) (iblk m c 7 t) (iblk m c 8 t) = out0_12 (V m c main_arg0 : Vec FI S2x896x4096 .fp8e4m3) (V m c main_arg1 : Vec FI S2x896x128 .i8) (V m c main_arg2 : Vec FI S448x4096 .fp8e4m3) (V m c main_arg3 : Vec FI S448x128 .i8) (V m c main_v0 : Vec FI S1x384 .f32) (V m c main_arg5 : Vec FI S2x896 .i32) (V m c main_arg6 : Vec FI S2x896x384 .bf16) (V m c main_arg7 : Vec FI S2x896x64 .bf16) (V m c main_v1 : Vec FI S1x64 .f32) := by
    rw [blk0, blk1, blk2, blk3, blk4, blk5, blk6, blk7, blk8]
  rw [e, V_main_arg0, V_main_arg1, V_main_arg2, V_main_arg3, V_main_arg5, V_main_arg6, V_main_arg7]
  exact out12_val _ _ _ _ _ _ _ _ _ (a4 m c) freq (V_gain m c) (V_freq m c)

theorem cut12 (t : Fin cfg0.N) : (cfg0.win 12).cut (grid0.coords t) (res3 m c) = ((cfg0.win 12).blk t).view.read (Elt FI) (res3 m c) := by
  funext y
  rw [View.read_apply]
  refine congrArg (res3 m c) (funext fun a => Fin.ext ?_)
  match a with
  | ⟨0, _⟩ => show (y 0).val = 0 * S1792x14.size 0 + 1 * (y 0).val; omega
  | ⟨1, _⟩ => show (y 1).val = 0 * S1792x14.size 1 + 1 * (y 1).val; omega

theorem mem12 (t : Fin cfg0.N) (i : S1792x14.Idx) :
    i ∈ ((cfg0.win 12).blk t).view.set ↔ ∀ a, win0_12.index t a * S1792x14.size a ≤ (i a).val ∧ (i a).val < win0_12.index t a * S1792x14.size a + S1792x14.size a := by
  show i ∈ ((View.whole main_v2_3).slice (win0_12.rect t)).set ↔ _
  rw [View.set_slice_whole, Rect.mem_set_unit]
  exact Iff.rfl

theorem covers12 (i : S1792x14.Idx) : ∃ t : Fin cfg0.N, (cfg0.win 12).flush t = true ∧ i ∈ ((cfg0.win 12).blk t).view.set := by
  refine ⟨⟨0, by decide +kernel⟩, by decide +kernel, ?_⟩
  rw [mem12]
  intro a
  match a with
  | ⟨0, _⟩ => exact ⟨by show 0 * S1792x14.size 0 ≤ (i 0).val; omega, by have := (i 0).isLt; show (i 0).val < 0 * S1792x14.size 0 + S1792x14.size 0; omega⟩
  | ⟨1, _⟩ => exact ⟨by show 0 * S1792x14.size 1 ≤ (i 1).val; omega, by have := (i 1).isLt; show (i 1).val < 0 * S1792x14.size 1 + S1792x14.size 1; omega⟩

/-- Every run ends with the results at their values. -/
theorem value :
    θ_run defs (onTc (τ := τ) (main (F := FI))) ⟨m, fun _ => 0, ρ⟩ (fun r => ∀ c : Dev nD,
      r.2.mem ((c.tc : Thread nD τ).loc main_v2_0) = res0 m c
      ∧ r.2.mem ((c.tc : Thread nD τ).loc main_v2_1) = res1 m c
      ∧ r.2.mem ((c.tc : Thread nD τ).loc main_v2_2) = res2 m c
      ∧ r.2.mem ((c.tc : Thread nD τ).loc main_v2_3) = res3 m c) :=
  (θ_run defs _ _).mono (fun r h c => ⟨
    ((h c).1 9).trans (Dat.arrAt_eq_of_cover (dats m 0 c) 9 (res0 m c) (fun t _ => by
      show (cfg0.win 9).cut (grid0.coords t) ((dats m 0 c).after 9 t) = _
      rw [left9]; exact cut9 m c t) covers9),
    ((h c).1 10).trans (Dat.arrAt_eq_of_cover (dats m 0 c) 10 (res1 m c) (fun t _ => by
      show (cfg0.win 10).cut (grid0.coords t) ((dats m 0 c).after 10 t) = _
      rw [left10]; exact cut10 m c t) covers10),
    ((h c).1 11).trans (Dat.arrAt_eq_of_cover (dats m 0 c) 11 (res2 m c) (fun t _ => by
      show (cfg0.win 11).cut (grid0.coords t) ((dats m 0 c).after 11 t) = _
      rw [left11]; exact cut11 m c t) covers11),
    ((h c).1 12).trans (Dat.arrAt_eq_of_cover (dats m 0 c) 12 (res3 m c) (fun t _ => by
      show (cfg0.win 12).cut (grid0.coords t) ((dats m 0 c).after 12 t) = _
      rw [left12]; exact cut12 m c t) covers12)⟩) (run_main m ρ)

end Cert.ReferenceIdeal.Hand
-- ==== Proof.Precondition.lean ====
/-
  The precondition, read element by element: every scale code lies between 1 and 254.
-/
module

public import proofs.«01_k».proof.Defs
public import proofs.«01_k».proof.Proof.KernelValue.Arrays

@[expose] public section

noncomputable section

namespace Cert.Pre_scales_normal.Hand

open Idealize.ShloMosaic

local notation "FI" => Idealize.ShloMosaic.Ideal

/-- The side conditions of the precondition's own operations. -/
theorem facts : Cert.Pre_scales_normal.Facts where
  natLt_8_32 := by decide
  bcast_S_S2x896x128 := by decide
  reducesTo_S2x896x128_S_d0_1_2 := by decide
  h_S_ := by decide
  bcast_S_S448x128 := by decide
  reducesTo_S448x128_S_d0_1 := by decide

theorem and_one : ∀ p q : BitVec 1, IntOp.andi p q = 1#1 → p = 1#1 ∧ q = 1#1 := by decide

/-- A conjunction folded over a list is true only where every member is. -/
theorem foldl_and {α : Type} (x : α → BitVec 1) : ∀ (l : List α) (v : BitVec 1),
    l.foldl (fun r n => IntOp.andi r (x n)) v = 1#1 → v = 1#1 ∧ ∀ n ∈ l, x n = 1#1
  | [], _, h => ⟨h, fun _ hn => absurd hn List.not_mem_nil⟩
  | n :: l, v, h => by
    obtain ⟨h1, h2⟩ := foldl_and x l (IntOp.andi v (x n)) h
    obtain ⟨hv, hx⟩ := and_one _ _ h1
    refine ⟨hv, fun k hk => ?_⟩
    rcases List.mem_cons.mp hk with rfl | hk
    · exact hx
    · exact h2 k hk

/-- A conjunction over every axis of an array is true only where every element is. -/
theorem reduce_and {s u : Shape} {axes : List (Fin s.rank)} (x : s.Idx → BitVec 1) (v : u.Idx → BitVec 1)
    (h : s.ReducesTo axes S_) (hu : 0 < u.numel) (j : S_.Idx) (e : Host.reduce IntOp.andi x v h hu j = 1#1) (y : s.Idx) :
    x y = 1#1 := by
  have := (foldl_and (fun n => x (s.rowMajor.symm n)) _ _ e).2 (s.rowMajor y)
    (List.mem_filter.mpr ⟨List.mem_finRange _, decide_eq_true (funext fun a => a.elim0)⟩)
  simpa using this

/-- What the two comparisons say of a scale code. -/
theorem code_range : ∀ s : BitVec 8,
    IntOp.andi (IntOp.cmpi .sge (s.setWidth 32) 1#32) (IntOp.cmpi .sle (s.setWidth 32) 254#32) = 1#1 → 1 ≤ s.toNat ∧ s.toNat ≤ 254 := by
  decide +kernel

variable [Cert.Pre_scales_normal.Facts]

theorem scalesOk (m : (ℓ : Loc Cert.KernelIdeal.nD Cert.KernelIdeal.τ Cert.KernelIdeal.sig) → Buf (Elt FI) ℓ)
    (hm : Cert.Pre_KernelIdeal_scales_normal m) (c : Dev Cert.KernelIdeal.nD) : Cert.KernelIdeal.Hand.ScalesOk m c := by
  have h := congrFun (hm c) (fun a => a.elim0)
  obtain ⟨h1, h3⟩ := and_one _ _ h
  exact ⟨fun y => code_range _ (reduce_and _ _ _ _ _ h1 y), fun y => code_range _ (reduce_and _ _ _ _ _ h3 y)⟩

end Cert.Pre_scales_normal.Hand
-- ==== Proof.Equation.lean ====
/-
  The equation: from memories agreeing on the arguments, the two programs' result arrays are the same arrays.
-/
module

public import proofs.«01_k».proof.Proof.KernelValue.Arrays
public import proofs.«01_k».proof.Proof.ReferenceValue.Arrays

@[expose] public section

noncomputable section

namespace Cert.Equation

open Idealize.ShloMosaic Idealize.SL.Sem

local notation "FI" => Idealize.ShloMosaic.Ideal

/-- The two programs' tables of inverse frequencies hold the same words. -/
theorem lit_eq : ∀ j : Fin 64, Cert.ReferenceIdeal.lit0 j = Cert.KernelIdeal.lit0 j := by decide +kernel

theorem freq_eq : Cert.ReferenceIdeal.Hand.freq = Cert.KernelIdeal.Hand.freq :=
  funext fun j => congrArg (FloatOps.ofBits (F := FI) .f32) (lit_eq j)

variable (m : (ℓ : Loc Cert.KernelIdeal.nD Cert.KernelIdeal.τ Cert.KernelIdeal.sig) → Buf (Elt FI) ℓ)
  (m' : (ℓ : Loc Cert.ReferenceIdeal.nD Cert.ReferenceIdeal.τ Cert.ReferenceIdeal.sig) → Buf (Elt FI) ℓ)
  (c : Dev Cert.KernelIdeal.nD)

/-- The two memories agree on the arguments of device `c`. -/
abbrev Agree : Prop :=
  Cert.ReferenceIdeal.Hand.a0 m' c = Cert.KernelIdeal.Hand.a0 m c
  ∧ Cert.ReferenceIdeal.Hand.a1 m' c = Cert.KernelIdeal.Hand.a1 m c
  ∧ Cert.ReferenceIdeal.Hand.a2 m' c = Cert.KernelIdeal.Hand.a2 m c
  ∧ Cert.ReferenceIdeal.Hand.a3 m' c = Cert.KernelIdeal.Hand.a3 m c
  ∧ Cert.ReferenceIdeal.Hand.a4 m' c = Cert.KernelIdeal.Hand.a4 m c
  ∧ Cert.ReferenceIdeal.Hand.a5 m' c = Cert.KernelIdeal.Hand.a5 m c
  ∧ Cert.ReferenceIdeal.Hand.a6 m' c = Cert.KernelIdeal.Hand.a6 m c
  ∧ Cert.ReferenceIdeal.Hand.a7 m' c = Cert.KernelIdeal.Hand.a7 m c

variable (h : Agree m m' c)
include h

theorem res0_eq : Cert.ReferenceIdeal.Hand.res0 m' c = Cert.KernelIdeal.Hand.res0 m c := by
  obtain ⟨h0, h1, h2, h3, h4, h5, h6, h7⟩ := h
  unfold Cert.ReferenceIdeal.Hand.res0 Cert.KernelIdeal.Hand.res0
  rw [h0, h1, h2, h3, h4, h5, h6, h7, freq_eq]

theorem res1_eq : Cert.ReferenceIdeal.Hand.res1 m' c = Cert.KernelIdeal.Hand.res1 m c := by
  obtain ⟨h0, h1, h2, h3, h4, h5, h6, h7⟩ := h
  unfold Cert.ReferenceIdeal.Hand.res1 Cert.KernelIdeal.Hand.res1
  rw [h0, h1, h2, h3, h6]

theorem res2_eq : Cert.ReferenceIdeal.Hand.res2 m' c = Cert.KernelIdeal.Hand.res2 m c := by
  obtain ⟨h0, h1, h2, h3, h4, h5, h6, h7⟩ := h
  unfold Cert.ReferenceIdeal.Hand.res2 Cert.KernelIdeal.Hand.res2
  rw [h0, h1, h2, h3, h4, h5, h6, h7, freq_eq]

theorem res3_eq : Cert.ReferenceIdeal.Hand.res3 m' c = Cert.KernelIdeal.Hand.res3 m c := by
  obtain ⟨h0, h1, h2, h3, h4, h5, h6, h7⟩ := h
  unfold Cert.ReferenceIdeal.Hand.res3 Cert.KernelIdeal.Hand.res3
  rw [h0, h1, h2, h3, h4, h5, h6, h7, freq_eq]

end Cert.Equation
-- ==== Proof.lean ====
/-
  The certificate: the frames of the three programs, and the equation between the kernel's four results and the
  reference's.
-/
module

public import proofs.«01_k».proof.Defs
public import proofs.«01_k».proof.Proof.KernelFrame.Frame
public import proofs.«01_k».proof.Proof.KernelIdealFrame.Frame
public import proofs.«01_k».proof.Proof.KernelValue.Arrays
public import proofs.«01_k».proof.Proof.ReferenceValue.Arrays
public import proofs.«01_k».proof.Proof.Precondition
public import proofs.«01_k».proof.Proof.Equation

@[expose] public section

noncomputable section

namespace Cert.Proof

open Idealize.ShloMosaic Idealize.SL.Sem

theorem algebraic [Cert.Pre_scales_normal.Facts] : Cert.algebraic_KernelIdeal_ReferenceIdeal_pre_scales_normal := by
  intro m g m' g' hm ha
  have hs := Cert.Pre_scales_normal.Hand.scalesOk m hm
  refine ⟨fun c => Cert.KernelIdeal.Hand.res0 m c, fun c => Cert.KernelIdeal.Hand.res1 m c,
    fun c => Cert.KernelIdeal.Hand.res2 m c, fun c => Cert.KernelIdeal.Hand.res3 m c, ?_, ?_⟩
  · refine (θ_run _ _ _).mono (fun r h c => ?_) (θ_run_and (Cert.KernelIdeal.Hand.value m g hs)
      (Cert.KernelIdeal.Hand.frame m g))
    exact ⟨(h.1 c).1, (h.1 c).2.1, (h.1 c).2.2.1, (h.1 c).2.2.2, h.2.1 c⟩
  · refine (θ_run _ _ _).mono (fun r h c => ?_) (θ_run_and (Cert.ReferenceIdeal.Hand.value m' g')
      (Cert.ReferenceIdeal.Gen.frame m' g'))
    exact ⟨(h.1 c).1.trans (Cert.Equation.res0_eq m m' c (ha c)), (h.1 c).2.1.trans (Cert.Equation.res1_eq m m' c (ha c)),
      (h.1 c).2.2.1.trans (Cert.Equation.res2_eq m m' c (ha c)), (h.1 c).2.2.2.trans (Cert.Equation.res3_eq m m' c (ha c)), h.2.1 c⟩

theorem claim : Cert.Claim :=
  ⟨Cert.Kernel.Gen.facts, Cert.KernelIdeal.Gen.facts, Cert.ReferenceIdeal.Gen.facts, Cert.Pre_scales_normal.Hand.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    @algebraic Cert.Pre_scales_normal.Hand.facts⟩

end Cert.Proof

end
